-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_channel_possible [hPre_some_channel_possible : Cert.Pre_some_channel_possible.Facts] (m : (ℓ : Loc Cert.KernelIdeal.nD Cert.KernelIdeal.τ Cert.KernelIdeal.sig) → Buf (Elt Ideal) ℓ) : Prop :=
  ∀ c : Dev Cert.KernelIdeal.nD,
    (Cert.Pre_some_channel_possible.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_channel_possible [hPre_some_channel_possible : Cert.Pre_some_channel_possible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_channel_possible.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_channel_possible [hKernelIdeal : Cert.KernelIdeal.Facts] [hPre_some_channel_possible : Cert.Pre_some_channel_possible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_channel_possible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_channel_possible [hReferenceIdeal : Cert.ReferenceIdeal.Facts] [hPre_some_channel_possible : Cert.Pre_some_channel_possible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_channel_possible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_channel_possible [hKernelIdeal : Cert.KernelIdeal.Facts] [hReferenceIdeal : Cert.ReferenceIdeal.Facts] [hPre_some_channel_possible : Cert.Pre_some_channel_possible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_channel_possible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_channel_possible : Cert.Pre_some_channel_possible.Facts),
    quiescent_Kernel (hKernel := hKernel)
    ∧ quiescent_KernelIdeal (hKernelIdeal := hKernelIdeal)
    ∧ quiescent_KernelIdeal_pre_some_channel_possible (hKernelIdeal := hKernelIdeal) (hPre_some_channel_possible := hPre_some_channel_possible)
    ∧ quiescent_ReferenceIdeal (hReferenceIdeal := hReferenceIdeal)
    ∧ quiescent_ReferenceIdeal_pre_some_channel_possible (hReferenceIdeal := hReferenceIdeal) (hPre_some_channel_possible := hPre_some_channel_possible)
    ∧ preserves_Kernel_KernelIdeal
    ∧ algebraic_KernelIdeal_ReferenceIdeal_pre_some_channel_possible (hKernelIdeal := hKernelIdeal) (hReferenceIdeal := hReferenceIdeal) (hPre_some_channel_possible := hPre_some_channel_possible)
-- ==== Pre_some_channel_possible.lean ====
abbrev S1024x32x32x16 : Shape := ⟨4, ![1024, 32, 32, 16]⟩
abbrev S_ : Shape := ⟨0, ![]⟩
abbrev S1024x32x32x4 : Shape := ⟨4, ![1024, 32, 32, 4]⟩

class Facts : Prop where
  bcast_S_S1024x32x32x16 : S_.BroadcastsInDim S1024x32x32x16 (![] : Fin 0 → Fin S1024x32x32x16.rank)
  slicesBy_S1024x32x32x16_S1024x32x32x4_0s1_0s1_0s1_0s4 : S1024x32x32x16.SlicesBy (![0, 0, 0, 0] : Fin 4 → Nat) ![1, 1, 1, 4] S1024x32x32x4
  slicesBy_S1024x32x32x16_S1024x32x32x4_0s1_0s1_0s1_1s4 : S1024x32x32x16.SlicesBy (![0, 0, 0, 1] : Fin 4 → Nat) ![1, 1, 1, 4] S1024x32x32x4
  slicesBy_S1024x32x32x16_S1024x32x32x4_0s1_0s1_0s1_2s4 : S1024x32x32x16.SlicesBy (![0, 0, 0, 2] : Fin 4 → Nat) ![1, 1, 1, 4] S1024x32x32x4
  slicesBy_S1024x32x32x16_S1024x32x32x4_0s1_0s1_0s1_3s4 : S1024x32x32x16.SlicesBy (![0, 0, 0, 3] : Fin 4 → Nat) ![1, 1, 1, 4] S1024x32x32x4

variable [Facts]

def fn {F : FTy → Type} [FloatOps F] (main_arg0 : FVec F S1024x32x32x16 .f32) : IVec S1024x32x32x4 1 :=
  let main_cst : FVec F S_ .f32 := constant S_ .f32 0xFF800000#32
  let main_v0 : FVec F S1024x32x32x16 .f32 := broadcastInDim S1024x32x32x16 ![] bcast_S_S1024x32x32x16 main_cst
  let main_v1 : IVec S1024x32x32x16 1 := cmpf .ogt main_arg0 main_v0
  let main_v2 : IVec S1024x32x32x4 1 := (Host.slice S1024x32x32x4 ![0, 0, 0, 0] ![1, 1, 1, 4] · slicesBy_S1024x32x32x16_S1024x32x32x4_0s1_0s1_0s1_0s4) main_v1
  let main_v3 : IVec S1024x32x32x4 1 := (Host.slice S1024x32x32x4 ![0, 0, 0, 1] ![1, 1, 1, 4] · slicesBy_S1024x32x32x16_S1024x32x32x4_0s1_0s1_0s1_1s4) main_v1
  let main_v4 : IVec S1024x32x32x4 1 := ori main_v2 main_v3
  let main_v5 : IVec S1024x32x32x4 1 := (Host.slice S1024x32x32x4 ![0, 0, 0, 2] ![1, 1, 1, 4] · slicesBy_S1024x32x32x16_S1024x32x32x4_0s1_0s1_0s1_2s4) main_v1
  let main_v6 : IVec S1024x32x32x4 1 := ori main_v4 main_v5
  let main_v7 : IVec S1024x32x32x4 1 := (Host.slice S1024x32x32x4 ![0, 0, 0, 3] ![1, 1, 1, 4] · slicesBy_S1024x32x32x16_S1024x32x32x4_0s1_0s1_0s1_3s4) main_v1
  let main_v8 : IVec S1024x32x32x4 1 := ori main_v6 main_v7
  main_v8
-- ==== Kernel.lean ====
abbrev S1024x32x32x16 : Shape := ⟨4, ![1024, 32, 32, 16]⟩
abbrev S9x512 : Shape := ⟨2, ![9, 512]⟩
abbrev S9x1x512 : Shape := ⟨3, ![9, 1, 512]⟩
abbrev S6x512 : Shape := ⟨2, ![6, 512]⟩
abbrev S6x1x512 : Shape := ⟨3, ![6, 1, 512]⟩
abbrev S1024x32x512 : Shape := ⟨3, ![1024, 32, 512]⟩
abbrev S32768 : Shape := ⟨1, ![32768]⟩
abbrev S_ : Shape := ⟨0, ![]⟩
abbrev S1024x32x1 : Shape := ⟨3, ![1024, 32, 1]⟩
abbrev S64x32x512 : Shape := ⟨3, ![64, 32, 512]⟩
abbrev S64x32x1 : Shape := ⟨3, ![64, 32, 1]⟩
abbrev S1x1x512 : Shape := ⟨3, ![1, 1, 512]⟩
abbrev S64x32x511 : Shape := ⟨3, ![64, 32, 511]⟩
abbrev S64x32x2 : Shape := ⟨3, ![64, 32, 2]⟩
abbrev S64x32x510 : Shape := ⟨3, ![64, 32, 510]⟩
abbrev S64x32x3 : Shape := ⟨3, ![64, 32, 3]⟩
abbrev S64x32x509 : Shape := ⟨3, ![64, 32, 509]⟩

abbrev nBuf : Space → Nat
  | .hbm => 12
  | .vmem => 8
  | .smem => 0
  | _ => 0

abbrev bufTy : (tb : Table) → Fin (tcTables nBuf tb) → BufTy
  | .hbm, ⟨0, _⟩ => ⟨S1024x32x32x16, .f32⟩
  | .hbm, ⟨1, _⟩ => ⟨S9x512, .i32⟩
  | .hbm, ⟨2, _⟩ => ⟨S9x1x512, .i32⟩
  | .hbm, ⟨3, _⟩ => ⟨S6x512, .f32⟩
  | .hbm, ⟨4, _⟩ => ⟨S6x1x512, .f32⟩
  | .hbm, ⟨5, _⟩ => ⟨S1024x32x512, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S1024x32x1, .i32⟩
  | .hbm, ⟨11, _⟩ => ⟨S1024x32x512, .f32⟩
  | .local _ .vmem, ⟨0, _⟩ => ⟨S64x32x512, .f32⟩
  | .local _ .vmem, ⟨1, _⟩ => ⟨S64x32x512, .f32⟩
  | .local _ .vmem, ⟨2, _⟩ => ⟨S9x1x512, .i32⟩
  | .local _ .vmem, ⟨3, _⟩ => ⟨S6x1x512, .f32⟩
  | .local _ .vmem, ⟨4, _⟩ => ⟨S64x32x1, .i32⟩
  | .local _ .vmem, ⟨5, _⟩ => ⟨S64x32x1, .i32⟩
  | .local _ .vmem, ⟨6, _⟩ => ⟨S64x32x512, .f32⟩
  | .local _ .vmem, ⟨7, _⟩ => ⟨S64x32x512, .f32⟩
  | _, _ => ⟨S1024x32x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x32x32x16 : Shape := ⟨4, ![1024, 32, 32, 16]⟩
abbrev S4 : Shape := ⟨1, ![4]⟩
abbrev S_ : Shape := ⟨0, ![]⟩
abbrev S1 : Shape := ⟨1, ![1]⟩
abbrev S2 : Shape := ⟨1, ![2]⟩
abbrev S4x1 : Shape := ⟨2, ![4, 1]⟩
abbrev S4x2 : Shape := ⟨2, ![4, 2]⟩
abbrev S1024x32x32x4 : Shape := ⟨4, ![1024, 32, 32, 4]⟩
abbrev S1x1024x32x32x4 : Shape := ⟨5, ![1, 1024, 32, 32, 4]⟩
abbrev S4x1024x32x32x4 : Shape := ⟨5, ![4, 1024, 32, 32, 4]⟩
abbrev S1x1x1x1 : Shape := ⟨4, ![1, 1, 1, 1]⟩
abbrev S4x1x1x1x1 : Shape := ⟨5, ![4, 1, 1, 1, 1]⟩
abbrev S1x1x1x1x1 : Shape := ⟨5, ![1, 1, 1, 1, 1]⟩
abbrev S4x1024x32x32 : Shape := ⟨4, ![4, 1024, 32, 32]⟩
abbrev S4x1x1x1 : Shape := ⟨4, ![4, 1, 1, 1]⟩
abbrev S4x1024x32x32x1 : Shape := ⟨5, ![4, 1024, 32, 32, 1]⟩
abbrev S1x1x1x1x16 : Shape := ⟨5, ![1, 1, 1, 1, 16]⟩
abbrev S4x1024x32x32x16 : Shape := ⟨5, ![4, 1024, 32, 32, 16]⟩
abbrev S1024x32x512 : Shape := ⟨3, ![1024, 32, 512]⟩

abbrev nBuf : Space → Nat
  | .hbm => 575
  | .vmem => 0
  | .smem => 0
  | _ => 0

abbrev hbmTy0_0 (i : Nat) : BufTy := match i % 128 with
  | 0 => ⟨S1024x32x32x16, .f32⟩
  | 1 => ⟨S4, .i32⟩
  | 2 => ⟨S4, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S4, .i32⟩
  | 15 => ⟨S4, .i32⟩
  | 16 => ⟨S4x1, .i32⟩
  | 17 => ⟨S_, .i32⟩
  | 18 => ⟨S4, .i32⟩
  | 19 => ⟨S4, .i32⟩
  | 20 => ⟨S4x1, .i32⟩
  | 21 => ⟨S4x2, .i32⟩
  | 22 => ⟨S1, .i32⟩
  | 23 => ⟨S_, .i32⟩
  | 24 => ⟨S1, .i32⟩
  | 25 => ⟨S_, .i32⟩
  | 26 => ⟨S4x1, .i32⟩
  | 27 => ⟨S4x1, .i32⟩
  | 28 => ⟨S_, .i32⟩
  | 29 => ⟨S_, .i32⟩
  | 30 => ⟨S_, .i32⟩
  | 31 => ⟨S4x1, .i32⟩
  | 32 => ⟨S4x1, .i32⟩
  | 33 => ⟨S4x1, .i32⟩
  | 34 => ⟨S4x1, .i32⟩
  | 35 => ⟨S4x1, .i32⟩
  | 36 => ⟨S_, .i32⟩
  | 37 => ⟨S4x1, .i32⟩
  | 38 => ⟨S4x1, .i32⟩
  | 39 => ⟨S_, .i32⟩
  | 40 => ⟨S4x1, .i32⟩
  | 41 => ⟨S4x1, .i32⟩
  | 42 => ⟨S4x1, .i32⟩
  | 43 => ⟨S4x1, .i32⟩
  | 44 => ⟨S4x1, .i32⟩
  | 45 => ⟨S_, .i32⟩
  | 46 => ⟨S4x1, .i32⟩
  | 47 => ⟨S4x1, .i32⟩
  | 48 => ⟨S_, .i32⟩
  | 49 => ⟨S4x1, .i32⟩
  | 50 => ⟨S4x1, .i32⟩
  | 51 => ⟨S4x1, .i32⟩
  | 52 => ⟨S4x1, .i32⟩
  | 53 => ⟨S4x1, .i32⟩
  | 54 => ⟨S_, .i32⟩
  | 55 => ⟨S4x1, .i32⟩
  | 56 => ⟨S4x1, .i32⟩
  | 57 => ⟨S_, .i32⟩
  | 58 => ⟨S4x1, .i32⟩
  | 59 => ⟨S4x1, .i32⟩
  | 60 => ⟨S4x1, .i32⟩
  | 61 => ⟨S4x1, .i32⟩
  | 62 => ⟨S4x1, .i32⟩
  | 63 => ⟨S_, .i32⟩
  | 64 => ⟨S4x1, .i32⟩
  | 65 => ⟨S4x1, .i32⟩
  | 66 => ⟨S_, .i32⟩
  | 67 => ⟨S4x1, .i32⟩
  | 68 => ⟨S4x1, .i32⟩
  | 69 => ⟨S4x1, .i32⟩
  | 70 => ⟨S4x1, .i32⟩
  | 71 => ⟨S4x1, .i32⟩
  | 72 => ⟨S4x1, .i32⟩
  | 73 => ⟨S4x1, .i32⟩
  | 74 => ⟨S4x1, .i32⟩
  | 75 => ⟨S_, .i32⟩
  | 76 => ⟨S4x1, .i32⟩
  | 77 => ⟨S4x1, .i32⟩
  | 78 => ⟨S4x1, .i32⟩
  | 79 => ⟨S_, .i32⟩
  | 80 => ⟨S4x1, .i32⟩
  | 81 => ⟨S4x1, .i32⟩
  | 82 => ⟨S_, .i32⟩
  | 83 => ⟨S4x1, .i32⟩
  | 84 => ⟨S4x1, .i32⟩
  | 85 => ⟨S4x1, .i32⟩
  | 86 => ⟨S4x1, .i32⟩
  | 87 => ⟨S4x1, .i32⟩
  | 88 => ⟨S_, .i32⟩
  | 89 => ⟨S4x1, .i32⟩
  | 90 => ⟨S4x1, .i32⟩
  | 91 => ⟨S_, .i32⟩
  | 92 => ⟨S4x1, .i32⟩
  | 93 => ⟨S4x1, .i32⟩
  | 94 => ⟨S4x1, .i32⟩
  | 95 => ⟨S4x1, .i32⟩
  | 96 => ⟨S4x1, .i32⟩
  | 97 => ⟨S_, .i32⟩
  | 98 => ⟨S4x1, .i32⟩
  | 99 => ⟨S4x1, .i32⟩
  | 100 => ⟨S_, .i32⟩
  | 101 => ⟨S4x1, .i32⟩
  | 102 => ⟨S4x1, .i32⟩
  | 103 => ⟨S4x1, .i32⟩
  | 104 => ⟨S4x1, .i32⟩
  | 105 => ⟨S4x1, .i32⟩
  | 106 => ⟨S_, .i32⟩
  | 107 => ⟨S4x1, .i32⟩
  | 108 => ⟨S4x1, .i32⟩
  | 109 => ⟨S_, .i32⟩
  | 110 => ⟨S4x1, .i32⟩
  | 111 => ⟨S4x1, .i32⟩
  | 112 => ⟨S4x1, .i32⟩
  | 113 => ⟨S4x1, .i32⟩
  | 114 => ⟨S4x1, .i32⟩
  | 115 => ⟨S4x1, .i32⟩
  | 116 => ⟨S4x1, .i32⟩
  | 117 => ⟨S4x1, .i32⟩
  | 118 => ⟨S_, .i32⟩
  | 119 => ⟨S4x1, .i32⟩
  | 120 => ⟨S4x1, .i32⟩
  | 121 => ⟨S4x1, .i32⟩
  | 122 => ⟨S_, .i32⟩
  | 123 => ⟨S4x1, .i32⟩
  | 124 => ⟨S4x1, .i32⟩
  | 125 => ⟨S_, .i32⟩
  | 126 => ⟨S4x1, .i32⟩
  | 127 => ⟨S4x1, .i32⟩
  | _ => ⟨S1024x32x32x16, .f32⟩

abbrev hbmTy0_1 (i : Nat) : BufTy := match i % 128 with
  | 0 => ⟨S4x1, .i32⟩
  | 1 => ⟨S4x1, .i32⟩
  | 2 => ⟨S4x1, .i32⟩
  | 3 => ⟨S_, .i32⟩
  | 4 => ⟨S4x1, .i32⟩
  | 5 => ⟨S4x1, .i32⟩
  | 6 => ⟨S_, .i32⟩
  | 7 => ⟨S4x1, .i32⟩
  | 8 => ⟨S4x1, .i32⟩
  | 9 => ⟨S4x1, .i32⟩
  | 10 => ⟨S4x1, .i32⟩
  | 11 => ⟨S4x1, .i32⟩
  | 12 => ⟨S_, .i32⟩
  | 13 => ⟨S4x1, .i32⟩
  | 14 => ⟨S4x1, .i32⟩
  | 15 => ⟨S_, .i32⟩
  | 16 => ⟨S4x1, .i32⟩
  | 17 => ⟨S4x1, .i32⟩
  | 18 => ⟨S4x1, .i32⟩
  | 19 => ⟨S4x1, .i32⟩
  | 20 => ⟨S4x1, .i32⟩
  | 21 => ⟨S_, .i32⟩
  | 22 => ⟨S4x1, .i32⟩
  | 23 => ⟨S4x1, .i32⟩
  | 24 => ⟨S_, .i32⟩
  | 25 => ⟨S4x1, .i32⟩
  | 26 => ⟨S4x1, .i32⟩
  | 27 => ⟨S4x1, .i32⟩
  | 28 => ⟨S4x1, .i32⟩
  | 29 => ⟨S4x1, .i32⟩
  | 30 => ⟨S4x1, .i32⟩
  | 31 => ⟨S4x1, .i32⟩
  | 32 => ⟨S4x1, .i32⟩
  | 33 => ⟨S_, .i32⟩
  | 34 => ⟨S4x1, .i32⟩
  | 35 => ⟨S4x1, .i32⟩
  | 36 => ⟨S4x1, .i32⟩
  | 37 => ⟨S_, .i32⟩
  | 38 => ⟨S4x1, .i32⟩
  | 39 => ⟨S4x1, .i32⟩
  | 40 => ⟨S_, .i32⟩
  | 41 => ⟨S4x1, .i32⟩
  | 42 => ⟨S4x1, .i32⟩
  | 43 => ⟨S4x1, .i32⟩
  | 44 => ⟨S4x1, .i32⟩
  | 45 => ⟨S4x1, .i32⟩
  | 46 => ⟨S_, .i32⟩
  | 47 => ⟨S4x1, .i32⟩
  | 48 => ⟨S4x1, .i32⟩
  | 49 => ⟨S_, .i32⟩
  | 50 => ⟨S4x1, .i32⟩
  | 51 => ⟨S4x1, .i32⟩
  | 52 => ⟨S4x1, .i32⟩
  | 53 => ⟨S4x1, .i32⟩
  | 54 => ⟨S4x1, .i32⟩
  | 55 => ⟨S_, .i32⟩
  | 56 => ⟨S4x1, .i32⟩
  | 57 => ⟨S4x1, .i32⟩
  | 58 => ⟨S_, .i32⟩
  | 59 => ⟨S4x1, .i32⟩
  | 60 => ⟨S4x1, .i32⟩
  | 61 => ⟨S4x1, .i32⟩
  | 62 => ⟨S4x1, .i32⟩
  | 63 => ⟨S4x1, .i32⟩
  | 64 => ⟨S_, .i32⟩
  | 65 => ⟨S4x1, .i32⟩
  | 66 => ⟨S4x1, .i32⟩
  | 67 => ⟨S_, .i32⟩
  | 68 => ⟨S4x1, .i32⟩
  | 69 => ⟨S4x1, .i32⟩
  | 70 => ⟨S4x1, .i32⟩
  | 71 => ⟨S4x1, .i32⟩
  | 72 => ⟨S4x1, .i32⟩
  | 73 => ⟨S4x1, .i32⟩
  | 74 => ⟨S4x1, .i32⟩
  | 75 => ⟨S4x1, .i32⟩
  | 76 => ⟨S_, .i32⟩
  | 77 => ⟨S4x1, .i32⟩
  | 78 => ⟨S4x1, .i32⟩
  | 79 => ⟨S4x1, .i32⟩
  | 80 => ⟨S_, .i32⟩
  | 81 => ⟨S4x1, .i32⟩
  | 82 => ⟨S4x1, .i32⟩
  | 83 => ⟨S_, .i32⟩
  | 84 => ⟨S4x1, .i32⟩
  | 85 => ⟨S4x1, .i32⟩
  | 86 => ⟨S4x1, .i32⟩
  | 87 => ⟨S4x1, .i32⟩
  | 88 => ⟨S4x1, .i32⟩
  | 89 => ⟨S_, .i32⟩
  | 90 => ⟨S4x1, .i32⟩
  | 91 => ⟨S4x1, .i32⟩
  | 92 => ⟨S_, .i32⟩
  | 93 => ⟨S4x1, .i32⟩
  | 94 => ⟨S4x1, .i32⟩
  | 95 => ⟨S4x1, .i32⟩
  | 96 => ⟨S4x1, .i32⟩
  | 97 => ⟨S4x1, .i32⟩
  | 98 => ⟨S_, .i32⟩
  | 99 => ⟨S4x1, .i32⟩
  | 100 => ⟨S4x1, .i32⟩
  | 101 => ⟨S_, .i32⟩
  | 102 => ⟨S4x1, .i32⟩
  | 103 => ⟨S4x1, .i32⟩
  | 104 => ⟨S4x1, .i32⟩
  | 105 => ⟨S4x1, .i32⟩
  | 106 => ⟨S4x1, .i32⟩
  | 107 => ⟨S_, .i32⟩
  | 108 => ⟨S4x1, .i32⟩
  | 109 => ⟨S4x1, .i32⟩
  | 110 => ⟨S_, .i32⟩
  | 111 => ⟨S4x1, .i32⟩
  | 112 => ⟨S4x1, .i32⟩
  | 113 => ⟨S4x1, .i32⟩
  | 114 => ⟨S4x1, .i32⟩
  | 115 => ⟨S4x1, .i32⟩
  | 116 => ⟨S4x1, .i32⟩
  | 117 => ⟨S4x1, .i32⟩
  | 118 => ⟨S4x1, .i32⟩
  | 119 => ⟨S_, .i32⟩
  | 120 => ⟨S4x1, .i32⟩
  | 121 => ⟨S4x1, .i32⟩
  | 122 => ⟨S4x2, .i32⟩
  | 123 => ⟨S1024x32x32x4, .f32⟩
  | 124 => ⟨S1024x32x32x4, .f32⟩
  | 125 => ⟨S1024x32x32x4, .f32⟩
  | 126 => ⟨S1024x32x32x4, .f32⟩
  | 127 => ⟨S1x1024x32x32x4, .f32⟩
  | _ => ⟨S1024x32x32x16, .f32⟩

abbrev hbmTy0_2 (i : Nat) : BufTy := match i % 128 with
  | 0 => ⟨S1x1024x32x32x4, .f32⟩
  | 1 => ⟨S1x1024x32x32x4, .f32⟩
  | 2 => ⟨S1x1024x32x32x4, .f32⟩
  | 3 => ⟨S4x1024x32x32x4, .f32⟩
  | 4 => ⟨S_, .f32⟩
  | 5 => ⟨S_, .f32⟩
  | 6 => ⟨S_, .f32⟩
  | 7 => ⟨S_, .f32⟩
  | 8 => ⟨S1x1x1x1, .f32⟩
  | 9 => ⟨S1x1x1x1, .f32⟩
  | 10 => ⟨S4x1, .i32⟩
  | 11 => ⟨S4, .i32⟩
  | 12 => ⟨S4x1, .i32⟩
  | 13 => ⟨S4, .i32⟩
  | 14 => ⟨S1024x32x32x4, .i64⟩
  | 15 => ⟨S1024x32x32x4, .i64⟩
  | 16 => ⟨S1024x32x32x4, .i64⟩
  | 17 => ⟨S1024x32x32x4, .i64⟩
  | 18 => ⟨S_, .i64⟩
  | 19 => ⟨S1024x32x32x4, .i64⟩
  | 20 => ⟨S1024x32x32x4, .i64⟩
  | 21 => ⟨S_, .i64⟩
  | 22 => ⟨S1024x32x32x4, .i64⟩
  | 23 => ⟨S1024x32x32x4, .i64⟩
  | 24 => ⟨S_, .i64⟩
  | 25 => ⟨S1024x32x32x4, .i64⟩
  | 26 => ⟨S1024x32x32x4, .i64⟩
  | 27 => ⟨S_, .i64⟩
  | 28 => ⟨S1024x32x32x4, .i64⟩
  | 29 => ⟨S1024x32x32x4, .i64⟩
  | 30 => ⟨S1024x32x32x4, .i64⟩
  | 31 => ⟨S1024x32x32x4, .i64⟩
  | 32 => ⟨S1024x32x32x4, .i64⟩
  | 33 => ⟨S_, .i64⟩
  | 34 => ⟨S1024x32x32x4, .i64⟩
  | 35 => ⟨S1024x32x32x4, .i64⟩
  | 36 => ⟨S1024x32x32x4, .i32⟩
  | 37 => ⟨S1024x32x32x4, .i32⟩
  | 38 => ⟨S1x1024x32x32x4, .i32⟩
  | 39 => ⟨S1x1024x32x32x4, .i32⟩
  | 40 => ⟨S4x1x1x1x1, .i32⟩
  | 41 => ⟨S4x1x1x1x1, .i32⟩
  | 42 => ⟨S4x1x1x1x1, .i32⟩
  | 43 => ⟨S_, .i32⟩
  | 44 => ⟨S4x1x1x1x1, .i32⟩
  | 45 => ⟨S4x1x1x1x1, .i32⟩
  | 46 => ⟨S4x1024x32x32x4, .i32⟩
  | 47 => ⟨S4x1024x32x32x4, .i32⟩
  | 48 => ⟨S4x1024x32x32x4, .i32⟩
  | 49 => ⟨S4x1024x32x32x4, .i32⟩
  | 50 => ⟨S4x1024x32x32x4, .i32⟩
  | 51 => ⟨S4x1024x32x32x4, .i32⟩
  | 52 => ⟨S4x1024x32x32x4, .i32⟩
  | 53 => ⟨S_, .i32⟩
  | 54 => ⟨S4x1024x32x32x4, .i32⟩
  | 55 => ⟨S4x1024x32x32x4, .i32⟩
  | 56 => ⟨S_, .i32⟩
  | 57 => ⟨S4x1024x32x32x4, .i32⟩
  | 58 => ⟨S4x1024x32x32x4, .i32⟩
  | 59 => ⟨S4x1024x32x32x4, .i32⟩
  | 60 => ⟨S4x1024x32x32x4, .i32⟩
  | 61 => ⟨S4x1024x32x32x4, .i32⟩
  | 62 => ⟨S_, .i32⟩
  | 63 => ⟨S4x1024x32x32x4, .i32⟩
  | 64 => ⟨S4x1024x32x32x4, .i32⟩
  | 65 => ⟨S_, .i32⟩
  | 66 => ⟨S4x1024x32x32x4, .i32⟩
  | 67 => ⟨S4x1024x32x32x4, .i32⟩
  | 68 => ⟨S4x1024x32x32x4, .i32⟩
  | 69 => ⟨S4x1024x32x32x4, .i32⟩
  | 70 => ⟨S4x1024x32x32x4, .i32⟩
  | 71 => ⟨S_, .i32⟩
  | 72 => ⟨S4x1024x32x32x4, .i32⟩
  | 73 => ⟨S4x1024x32x32x4, .i32⟩
  | 74 => ⟨S_, .i32⟩
  | 75 => ⟨S4x1024x32x32x4, .i32⟩
  | 76 => ⟨S4x1024x32x32x4, .i32⟩
  | 77 => ⟨S4x1024x32x32x4, .i32⟩
  | 78 => ⟨S4x1024x32x32x4, .i32⟩
  | 79 => ⟨S4x1024x32x32x4, .i32⟩
  | 80 => ⟨S_, .i32⟩
  | 81 => ⟨S4x1024x32x32x4, .i32⟩
  | 82 => ⟨S4x1024x32x32x4, .i32⟩
  | 83 => ⟨S_, .i32⟩
  | 84 => ⟨S4x1024x32x32x4, .i32⟩
  | 85 => ⟨S4x1024x32x32x4, .i32⟩
  | 86 => ⟨S4x1024x32x32x4, .i32⟩
  | 87 => ⟨S4x1024x32x32x4, .i32⟩
  | 88 => ⟨S4x1024x32x32x4, .i32⟩
  | 89 => ⟨S4x1024x32x32x4, .i32⟩
  | 90 => ⟨S4x1024x32x32x4, .i32⟩
  | 91 => ⟨S4x1024x32x32x4, .i32⟩
  | 92 => ⟨S_, .i32⟩
  | 93 => ⟨S4x1024x32x32x4, .i32⟩
  | 94 => ⟨S4x1024x32x32x4, .i32⟩
  | 95 => ⟨S4x1024x32x32x4, .i32⟩
  | 96 => ⟨S_, .i32⟩
  | 97 => ⟨S4x1024x32x32x4, .i32⟩
  | 98 => ⟨S4x1024x32x32x4, .i32⟩
  | 99 => ⟨S_, .i32⟩
  | 100 => ⟨S4x1024x32x32x4, .i32⟩
  | 101 => ⟨S4x1024x32x32x4, .i32⟩
  | 102 => ⟨S4x1024x32x32x4, .i32⟩
  | 103 => ⟨S4x1024x32x32x4, .i32⟩
  | 104 => ⟨S4x1024x32x32x4, .i32⟩
  | 105 => ⟨S_, .i32⟩
  | 106 => ⟨S4x1024x32x32x4, .i32⟩
  | 107 => ⟨S4x1024x32x32x4, .i32⟩
  | 108 => ⟨S_, .i32⟩
  | 109 => ⟨S4x1024x32x32x4, .i32⟩
  | 110 => ⟨S4x1024x32x32x4, .i32⟩
  | 111 => ⟨S4x1024x32x32x4, .i32⟩
  | 112 => ⟨S4x1024x32x32x4, .i32⟩
  | 113 => ⟨S4x1024x32x32x4, .i32⟩
  | 114 => ⟨S_, .i32⟩
  | 115 => ⟨S4x1024x32x32x4, .i32⟩
  | 116 => ⟨S4x1024x32x32x4, .i32⟩
  | 117 => ⟨S_, .i32⟩
  | 118 => ⟨S4x1024x32x32x4, .i32⟩
  | 119 => ⟨S4x1024x32x32x4, .i32⟩
  | 120 => ⟨S4x1024x32x32x4, .i32⟩
  | 121 => ⟨S4x1024x32x32x4, .i32⟩
  | 122 => ⟨S4x1024x32x32x4, .i32⟩
  | 123 => ⟨S_, .i32⟩
  | 124 => ⟨S4x1024x32x32x4, .i32⟩
  | 125 => ⟨S4x1024x32x32x4, .i32⟩
  | 126 => ⟨S_, .i32⟩
  | 127 => ⟨S4x1024x32x32x4, .i32⟩
  | _ => ⟨S1024x32x32x16, .f32⟩

abbrev hbmTy0_3 (i : Nat) : BufTy := match i % 128 with
  | 0 => ⟨S4x1024x32x32x4, .i32⟩
  | 1 => ⟨S4x1024x32x32x4, .i32⟩
  | 2 => ⟨S4x1024x32x32x4, .i32⟩
  | 3 => ⟨S4x1024x32x32x4, .i32⟩
  | 4 => ⟨S4x1024x32x32x4, .i32⟩
  | 5 => ⟨S4x1024x32x32x4, .i32⟩
  | 6 => ⟨S4x1024x32x32x4, .i32⟩
  | 7 => ⟨S_, .i32⟩
  | 8 => ⟨S4x1024x32x32x4, .i32⟩
  | 9 => ⟨S4x1024x32x32x4, .i32⟩
  | 10 => ⟨S4x1024x32x32x4, .i32⟩
  | 11 => ⟨S_, .i32⟩
  | 12 => ⟨S4x1024x32x32x4, .i32⟩
  | 13 => ⟨S4x1024x32x32x4, .i32⟩
  | 14 => ⟨S_, .i32⟩
  | 15 => ⟨S4x1024x32x32x4, .i32⟩
  | 16 => ⟨S4x1024x32x32x4, .i32⟩
  | 17 => ⟨S4x1024x32x32x4, .i32⟩
  | 18 => ⟨S4x1024x32x32x4, .i32⟩
  | 19 => ⟨S4x1024x32x32x4, .i32⟩
  | 20 => ⟨S_, .i32⟩
  | 21 => ⟨S4x1024x32x32x4, .i32⟩
  | 22 => ⟨S4x1024x32x32x4, .i32⟩
  | 23 => ⟨S_, .i32⟩
  | 24 => ⟨S4x1024x32x32x4, .i32⟩
  | 25 => ⟨S4x1024x32x32x4, .i32⟩
  | 26 => ⟨S4x1024x32x32x4, .i32⟩
  | 27 => ⟨S4x1024x32x32x4, .i32⟩
  | 28 => ⟨S4x1024x32x32x4, .i32⟩
  | 29 => ⟨S_, .i32⟩
  | 30 => ⟨S4x1024x32x32x4, .i32⟩
  | 31 => ⟨S4x1024x32x32x4, .i32⟩
  | 32 => ⟨S_, .i32⟩
  | 33 => ⟨S4x1024x32x32x4, .i32⟩
  | 34 => ⟨S4x1024x32x32x4, .i32⟩
  | 35 => ⟨S4x1024x32x32x4, .i32⟩
  | 36 => ⟨S4x1024x32x32x4, .i32⟩
  | 37 => ⟨S4x1024x32x32x4, .i32⟩
  | 38 => ⟨S_, .i32⟩
  | 39 => ⟨S4x1024x32x32x4, .i32⟩
  | 40 => ⟨S4x1024x32x32x4, .i32⟩
  | 41 => ⟨S_, .i32⟩
  | 42 => ⟨S4x1024x32x32x4, .i32⟩
  | 43 => ⟨S4x1024x32x32x4, .i32⟩
  | 44 => ⟨S4x1024x32x32x4, .i32⟩
  | 45 => ⟨S4x1024x32x32x4, .i32⟩
  | 46 => ⟨S4x1024x32x32x4, .i32⟩
  | 47 => ⟨S4x1024x32x32x4, .i32⟩
  | 48 => ⟨S4x1024x32x32x4, .i32⟩
  | 49 => ⟨S4x1024x32x32x4, .i32⟩
  | 50 => ⟨S_, .i32⟩
  | 51 => ⟨S4x1024x32x32x4, .i32⟩
  | 52 => ⟨S4x1024x32x32x4, .i32⟩
  | 53 => ⟨S4x1024x32x32x4, .i32⟩
  | 54 => ⟨S_, .i32⟩
  | 55 => ⟨S4x1024x32x32x4, .i32⟩
  | 56 => ⟨S4x1024x32x32x4, .i32⟩
  | 57 => ⟨S_, .i32⟩
  | 58 => ⟨S4x1024x32x32x4, .i32⟩
  | 59 => ⟨S4x1024x32x32x4, .i32⟩
  | 60 => ⟨S4x1024x32x32x4, .i32⟩
  | 61 => ⟨S4x1024x32x32x4, .i32⟩
  | 62 => ⟨S4x1024x32x32x4, .i32⟩
  | 63 => ⟨S_, .i32⟩
  | 64 => ⟨S4x1024x32x32x4, .i32⟩
  | 65 => ⟨S4x1024x32x32x4, .i32⟩
  | 66 => ⟨S_, .i32⟩
  | 67 => ⟨S4x1024x32x32x4, .i32⟩
  | 68 => ⟨S4x1024x32x32x4, .i32⟩
  | 69 => ⟨S4x1024x32x32x4, .i32⟩
  | 70 => ⟨S4x1024x32x32x4, .i32⟩
  | 71 => ⟨S4x1024x32x32x4, .i32⟩
  | 72 => ⟨S_, .i32⟩
  | 73 => ⟨S4x1024x32x32x4, .i32⟩
  | 74 => ⟨S4x1024x32x32x4, .i32⟩
  | 75 => ⟨S_, .i32⟩
  | 76 => ⟨S4x1024x32x32x4, .i32⟩
  | 77 => ⟨S4x1024x32x32x4, .i32⟩
  | 78 => ⟨S4x1024x32x32x4, .i32⟩
  | 79 => ⟨S4x1024x32x32x4, .i32⟩
  | 80 => ⟨S4x1024x32x32x4, .i32⟩
  | 81 => ⟨S_, .i32⟩
  | 82 => ⟨S4x1024x32x32x4, .i32⟩
  | 83 => ⟨S4x1024x32x32x4, .i32⟩
  | 84 => ⟨S_, .i32⟩
  | 85 => ⟨S4x1024x32x32x4, .i32⟩
  | 86 => ⟨S4x1024x32x32x4, .i32⟩
  | 87 => ⟨S4x1024x32x32x4, .i32⟩
  | 88 => ⟨S4x1024x32x32x4, .i32⟩
  | 89 => ⟨S4x1024x32x32x4, .i32⟩
  | 90 => ⟨S4x1024x32x32x4, .i32⟩
  | 91 => ⟨S4x1024x32x32x4, .i32⟩
  | 92 => ⟨S4x1024x32x32x4, .i32⟩
  | 93 => ⟨S_, .i32⟩
  | 94 => ⟨S4x1024x32x32x4, .i32⟩
  | 95 => ⟨S4x1024x32x32x4, .i32⟩
  | 96 => ⟨S4x1024x32x32x4, .i32⟩
  | 97 => ⟨S_, .i32⟩
  | 98 => ⟨S4x1024x32x32x4, .i32⟩
  | 99 => ⟨S4x1024x32x32x4, .i32⟩
  | 100 => ⟨S_, .i32⟩
  | 101 => ⟨S4x1024x32x32x4, .i32⟩
  | 102 => ⟨S4x1024x32x32x4, .i32⟩
  | 103 => ⟨S4x1024x32x32x4, .i32⟩
  | 104 => ⟨S4x1024x32x32x4, .i32⟩
  | 105 => ⟨S4x1024x32x32x4, .i32⟩
  | 106 => ⟨S_, .i32⟩
  | 107 => ⟨S4x1024x32x32x4, .i32⟩
  | 108 => ⟨S4x1024x32x32x4, .i32⟩
  | 109 => ⟨S_, .i32⟩
  | 110 => ⟨S4x1024x32x32x4, .i32⟩
  | 111 => ⟨S4x1024x32x32x4, .i32⟩
  | 112 => ⟨S4x1024x32x32x4, .i32⟩
  | 113 => ⟨S4x1024x32x32x4, .i32⟩
  | 114 => ⟨S4x1024x32x32x4, .i32⟩
  | 115 => ⟨S_, .i32⟩
  | 116 => ⟨S4x1024x32x32x4, .i32⟩
  | 117 => ⟨S4x1024x32x32x4, .i32⟩
  | 118 => ⟨S_, .i32⟩
  | 119 => ⟨S4x1024x32x32x4, .i32⟩
  | 120 => ⟨S4x1024x32x32x4, .i32⟩
  | 121 => ⟨S4x1024x32x32x4, .i32⟩
  | 122 => ⟨S4x1024x32x32x4, .i32⟩
  | 123 => ⟨S4x1024x32x32x4, .i32⟩
  | 124 => ⟨S_, .i32⟩
  | 125 => ⟨S4x1024x32x32x4, .i32⟩
  | 126 => ⟨S4x1024x32x32x4, .i32⟩
  | 127 => ⟨S_, .i32⟩
  | _ => ⟨S1024x32x32x16, .f32⟩

abbrev hbmTy0_4 (i : Nat) : BufTy := match i % 128 with
  | 0 => ⟨S4x1024x32x32x4, .i32⟩
  | 1 => ⟨S4x1024x32x32x4, .i32⟩
  | 2 => ⟨S4x1024x32x32x4, .i32⟩
  | 3 => ⟨S4x1024x32x32x4, .i32⟩
  | 4 => ⟨S4x1024x32x32x4, .i32⟩
  | 5 => ⟨S4x1024x32x32x4, .i32⟩
  | 6 => ⟨S4x1024x32x32x4, .i32⟩
  | 7 => ⟨S4x1024x32x32x4, .i32⟩
  | 8 => ⟨S_, .i32⟩
  | 9 => ⟨S4x1024x32x32x4, .i32⟩
  | 10 => ⟨S4x1024x32x32x4, .i32⟩
  | 11 => ⟨S4x1024x32x32x4, .i32⟩
  | 12 => ⟨S_, .i32⟩
  | 13 => ⟨S4x1024x32x32x4, .i32⟩
  | 14 => ⟨S4x1024x32x32x4, .i32⟩
  | 15 => ⟨S_, .i32⟩
  | 16 => ⟨S4x1024x32x32x4, .i32⟩
  | 17 => ⟨S4x1024x32x32x4, .i32⟩
  | 18 => ⟨S4x1024x32x32x4, .f32⟩
  | 19 => ⟨S_, .f32⟩
  | 20 => ⟨S4x1024x32x32x4, .f32⟩
  | 21 => ⟨S4x1024x32x32x4, .f32⟩
  | 22 => ⟨S1x1x1x1, .f32⟩
  | 23 => ⟨S1x1x1x1x1, .f32⟩
  | 24 => ⟨S4x1024x32x32x4, .f32⟩
  | 25 => ⟨S4x1024x32x32x4, .f32⟩
  | 26 => ⟨S1x1x1x1x1, .f32⟩
  | 27 => ⟨S4x1024x32x32x4, .f32⟩
  | 28 => ⟨S4x1024x32x32x4, .f32⟩
  | 29 => ⟨S1x1x1x1x1, .f32⟩
  | 30 => ⟨S4x1024x32x32x4, .f32⟩
  | 31 => ⟨S4x1024x32x32x4, .f32⟩
  | 32 => ⟨S_, .f32⟩
  | 33 => ⟨S4x1024x32x32x4, .f32⟩
  | 34 => ⟨S4x1024x32x32x4, .f32⟩
  | 35 => ⟨S_, .f32⟩
  | 36 => ⟨S4x1024x32x32x4, .f32⟩
  | 37 => ⟨S4x1024x32x32x4, .f32⟩
  | 38 => ⟨S_, .f32⟩
  | 39 => ⟨S4x1024x32x32x4, .f32⟩
  | 40 => ⟨S4x1024x32x32x4, .f32⟩
  | 41 => ⟨S4x1024x32x32x4, .f32⟩
  | 42 => ⟨S4x1024x32x32x4, .f32⟩
  | 43 => ⟨S4x1024x32x32x4, .f32⟩
  | 44 => ⟨S4x1024x32x32x4, .f32⟩
  | 45 => ⟨S4x1024x32x32x4, .f32⟩
  | 46 => ⟨S4x1024x32x32x4, .i32⟩
  | 47 => ⟨S_, .f32⟩
  | 48 => ⟨S_, .i32⟩
  | 49 => ⟨S4x1024x32x32, .f32⟩
  | 50 => ⟨S4x1024x32x32, .i32⟩
  | 51 => ⟨S4x1x1x1, .i32⟩
  | 52 => ⟨S4x1024x32x32, .i32⟩
  | 53 => ⟨S4x1024x32x32, .i32⟩
  | 54 => ⟨S4x1024x32x32x1, .i32⟩
  | 55 => ⟨S1x1x1x1x16, .i32⟩
  | 56 => ⟨S4x1024x32x32x16, .i32⟩
  | 57 => ⟨S4x1024x32x32x16, .i32⟩
  | 58 => ⟨S4x1024x32x32x16, .i1⟩
  | 59 => ⟨S4x1024x32x32x16, .f32⟩
  | 60 => ⟨S_, .f32⟩
  | 61 => ⟨S1024x32x32x16, .f32⟩
  | 62 => ⟨S1024x32x512, .f32⟩
  | _ => ⟨S1024x32x32x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x32x32x16, .f32⟩

abbrev bufTy : (tb : Table) → Fin (tcTables nBuf tb) → BufTy
  | .hbm, ⟨i, _⟩ => hbmTy i
  | _, _ => ⟨S1024x32x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c_0 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v13_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v13_1 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_v15 : Ref sig .tc := ⟨.hbm, 257, rfl⟩
abbrev main_v16 : Ref sig .tc := ⟨.hbm, 258, rfl⟩
abbrev main_v17 : Ref sig .tc := ⟨.hbm, 259, rfl⟩
abbrev main_cst : Ref sig .tc := ⟨.hbm, 260, rfl⟩
abbrev main_cst_3 : Ref sig .tc := ⟨.hbm, 261, rfl⟩
abbrev main_call1_v0 : Ref sig .tc := ⟨.hbm, 262, rfl⟩
abbrev main_call1_v1 : Ref sig .tc := ⟨.hbm, 263, rfl⟩
abbrev main_call1_v2 : Ref sig .tc := ⟨.hbm, 264, rfl⟩
abbrev main_call1_v3 : Ref sig .tc := ⟨.hbm, 265, rfl⟩
abbrev main_call1_v4 : Ref sig .tc := ⟨.hbm, 266, rfl⟩
abbrev main_call1_v5 : Ref sig .tc := ⟨.hbm, 267, rfl⟩
abbrev main_call1_v6 : Ref sig .tc := ⟨.hbm, 268, rfl⟩
abbrev main_call1_v7 : Ref sig .tc := ⟨.hbm, 269, rfl⟩
abbrev main_call1_v8 : Ref sig .tc := ⟨.hbm, 270, rfl⟩
abbrev main_call1_v9 : Ref sig .tc := ⟨.hbm, 271, rfl⟩
abbrev main_call1_v10 : Ref sig .tc := ⟨.hbm, 272, rfl⟩
abbrev main_call1_v11 : Ref sig .tc := ⟨.hbm, 273, rfl⟩
abbrev main_call1_c : Ref sig .tc := ⟨.hbm, 274, rfl⟩
abbrev main_call1_v12 : Ref sig .tc := ⟨.hbm, 275, rfl⟩
abbrev main_call1_v13 : Ref sig .tc := ⟨.hbm, 276, rfl⟩
abbrev main_call1_c_0 : Ref sig .tc := ⟨.hbm, 277, rfl⟩
abbrev main_call1_v14 : Ref sig .tc := ⟨.hbm, 278, rfl⟩
abbrev main_call1_v15 : Ref sig .tc := ⟨.hbm, 279, rfl⟩
abbrev main_call1_c_1 : Ref sig .tc := ⟨.hbm, 280, rfl⟩
abbrev main_call1_v16 : Ref sig .tc := ⟨.hbm, 281, rfl⟩
abbrev main_call1_v17 : Ref sig .tc := ⟨.hbm, 282, rfl⟩
abbrev main_call1_c_2 : Ref sig .tc := ⟨.hbm, 283, rfl⟩
abbrev main_call1_v18 : Ref sig .tc := ⟨.hbm, 284, rfl⟩
abbrev main_call1_v19 : Ref sig .tc := ⟨.hbm, 285, rfl⟩
abbrev main_call1_v20 : Ref sig .tc := ⟨.hbm, 286, rfl⟩
abbrev main_call1_v21 : Ref sig .tc := ⟨.hbm, 287, rfl⟩
abbrev main_call1_v22 : Ref sig .tc := ⟨.hbm, 288, rfl⟩
abbrev main_call1_c_3 : Ref sig .tc := ⟨.hbm, 289, rfl⟩
abbrev main_call1_v23 : Ref sig .tc := ⟨.hbm, 290, rfl⟩
abbrev main_call1_v24 : Ref sig .tc := ⟨.hbm, 291, rfl⟩
abbrev main_call1_v25 : Ref sig .tc := ⟨.hbm, 292, rfl⟩
abbrev main_call1_v26 : Ref sig .tc := ⟨.hbm, 293, rfl⟩
abbrev main_call1_v27 : Ref sig .tc := ⟨.hbm, 294, rfl⟩
abbrev main_call1_v28 : Ref sig .tc := ⟨.hbm, 295, rfl⟩
abbrev main_call1_v29 : Ref sig .tc := ⟨.hbm, 296, rfl⟩
abbrev main_call1_v30 : Ref sig .tc := ⟨.hbm, 297, rfl⟩
abbrev main_call1_call0_v0 : Ref sig .tc := ⟨.hbm, 298, rfl⟩
abbrev main_call1_call0_c : Ref sig .tc := ⟨.hbm, 299, rfl⟩
abbrev main_call1_call0_v1 : Ref sig .tc := ⟨.hbm, 300, rfl⟩
abbrev main_call1_call0_v2 : Ref sig .tc := ⟨.hbm, 301, rfl⟩
abbrev main_call1_call0_v3 : Ref sig .tc := ⟨.hbm, 302, rfl⟩
abbrev main_call1_call0_v4 : Ref sig .tc := ⟨.hbm, 303, rfl⟩
abbrev main_call1_call0_v5 : Ref sig .tc := ⟨.hbm, 304, rfl⟩
abbrev main_call1_call0_v6 : Ref sig .tc := ⟨.hbm, 305, rfl⟩
abbrev main_call1_call0_v7 : Ref sig .tc := ⟨.hbm, 306, rfl⟩
abbrev main_call1_call0_v8 : Ref sig .tc := ⟨.hbm, 307, rfl⟩
abbrev main_call1_call0_v9 : Ref sig .tc := ⟨.hbm, 308, rfl⟩
abbrev main_call1_call0_c_0 : Ref sig .tc := ⟨.hbm, 309, rfl⟩
abbrev main_call1_call0_v10 : Ref sig .tc := ⟨.hbm, 310, rfl⟩
abbrev main_call1_call0_v11 : Ref sig .tc := ⟨.hbm, 311, rfl⟩
abbrev main_call1_call0_c_1 : Ref sig .tc := ⟨.hbm, 312, rfl⟩
abbrev main_call1_call0_v12 : Ref sig .tc := ⟨.hbm, 313, rfl⟩
abbrev main_call1_call0_v13 : Ref sig .tc := ⟨.hbm, 314, rfl⟩
abbrev main_call1_call0_v14 : Ref sig .tc := ⟨.hbm, 315, rfl⟩
abbrev main_call1_call0_v15 : Ref sig .tc := ⟨.hbm, 316, rfl⟩
abbrev main_call1_call0_v16 : Ref sig .tc := ⟨.hbm, 317, rfl⟩
abbrev main_call1_call0_c_2 : Ref sig .tc := ⟨.hbm, 318, rfl⟩
abbrev main_call1_call0_v17 : Ref sig .tc := ⟨.hbm, 319, rfl⟩
abbrev main_call1_call0_v18 : Ref sig .tc := ⟨.hbm, 320, rfl⟩
abbrev main_call1_call0_c_3 : Ref sig .tc := ⟨.hbm, 321, rfl⟩
abbrev main_call1_call0_v19 : Ref sig .tc := ⟨.hbm, 322, rfl⟩
abbrev main_call1_call0_v20 : Ref sig .tc := ⟨.hbm, 323, rfl⟩
abbrev main_call1_call0_v21 : Ref sig .tc := ⟨.hbm, 324, rfl⟩
abbrev main_call1_call0_v22 : Ref sig .tc := ⟨.hbm, 325, rfl⟩
abbrev main_call1_call0_v23 : Ref sig .tc := ⟨.hbm, 326, rfl⟩
abbrev main_call1_call0_c_4 : Ref sig .tc := ⟨.hbm, 327, rfl⟩
abbrev main_call1_call0_v24 : Ref sig .tc := ⟨.hbm, 328, rfl⟩
abbrev main_call1_call0_v25 : Ref sig .tc := ⟨.hbm, 329, rfl⟩
abbrev main_call1_call0_c_5 : Ref sig .tc := ⟨.hbm, 330, rfl⟩
abbrev main_call1_call0_v26 : Ref sig .tc := ⟨.hbm, 331, rfl⟩
abbrev main_call1_call0_v27 : Ref sig .tc := ⟨.hbm, 332, rfl⟩
abbrev main_call1_call0_v28 : Ref sig .tc := ⟨.hbm, 333, rfl⟩
abbrev main_call1_call0_v29 : Ref sig .tc := ⟨.hbm, 334, rfl⟩
abbrev main_call1_call0_v30 : Ref sig .tc := ⟨.hbm, 335, rfl⟩
abbrev main_call1_call0_c_6 : Ref sig .tc := ⟨.hbm, 336, rfl⟩
abbrev main_call1_call0_v31 : Ref sig .tc := ⟨.hbm, 337, rfl⟩
abbrev main_call1_call0_v32 : Ref sig .tc := ⟨.hbm, 338, rfl⟩
abbrev main_call1_call0_c_7 : Ref sig .tc := ⟨.hbm, 339, rfl⟩
abbrev main_call1_call0_v33 : Ref sig .tc := ⟨.hbm, 340, rfl⟩
abbrev main_call1_call0_v34 : Ref sig .tc := ⟨.hbm, 341, rfl⟩
abbrev main_call1_call0_v35 : Ref sig .tc := ⟨.hbm, 342, rfl⟩
abbrev main_call1_call0_v36 : Ref sig .tc := ⟨.hbm, 343, rfl⟩
abbrev main_call1_call0_v37 : Ref sig .tc := ⟨.hbm, 344, rfl⟩
abbrev main_call1_call0_v38 : Ref sig .tc := ⟨.hbm, 345, rfl⟩
abbrev main_call1_call0_v39 : Ref sig .tc := ⟨.hbm, 346, rfl⟩
abbrev main_call1_call0_v40 : Ref sig .tc := ⟨.hbm, 347, rfl⟩
abbrev main_call1_call0_c_8 : Ref sig .tc := ⟨.hbm, 348, rfl⟩
abbrev main_call1_call0_v41 : Ref sig .tc := ⟨.hbm, 349, rfl⟩
abbrev main_call1_call0_v42 : Ref sig .tc := ⟨.hbm, 350, rfl⟩
abbrev main_call1_call0_v43 : Ref sig .tc := ⟨.hbm, 351, rfl⟩
abbrev main_call1_call0_c_9 : Ref sig .tc := ⟨.hbm, 352, rfl⟩
abbrev main_call1_call0_v44 : Ref sig .tc := ⟨.hbm, 353, rfl⟩
abbrev main_call1_call0_v45 : Ref sig .tc := ⟨.hbm, 354, rfl⟩
abbrev main_call1_call0_c_10 : Ref sig .tc := ⟨.hbm, 355, rfl⟩
abbrev main_call1_call0_v46 : Ref sig .tc := ⟨.hbm, 356, rfl⟩
abbrev main_call1_call0_v47 : Ref sig .tc := ⟨.hbm, 357, rfl⟩
abbrev main_call1_call0_v48 : Ref sig .tc := ⟨.hbm, 358, rfl⟩
abbrev main_call1_call0_v49 : Ref sig .tc := ⟨.hbm, 359, rfl⟩
abbrev main_call1_call0_v50 : Ref sig .tc := ⟨.hbm, 360, rfl⟩
abbrev main_call1_call0_c_11 : Ref sig .tc := ⟨.hbm, 361, rfl⟩
abbrev main_call1_call0_v51 : Ref sig .tc := ⟨.hbm, 362, rfl⟩
abbrev main_call1_call0_v52 : Ref sig .tc := ⟨.hbm, 363, rfl⟩
abbrev main_call1_call0_c_12 : Ref sig .tc := ⟨.hbm, 364, rfl⟩
abbrev main_call1_call0_v53 : Ref sig .tc := ⟨.hbm, 365, rfl⟩
abbrev main_call1_call0_v54 : Ref sig .tc := ⟨.hbm, 366, rfl⟩
abbrev main_call1_call0_v55 : Ref sig .tc := ⟨.hbm, 367, rfl⟩
abbrev main_call1_call0_v56 : Ref sig .tc := ⟨.hbm, 368, rfl⟩
abbrev main_call1_call0_v57 : Ref sig .tc := ⟨.hbm, 369, rfl⟩
abbrev main_call1_call0_c_13 : Ref sig .tc := ⟨.hbm, 370, rfl⟩
abbrev main_call1_call0_v58 : Ref sig .tc := ⟨.hbm, 371, rfl⟩
abbrev main_call1_call0_v59 : Ref sig .tc := ⟨.hbm, 372, rfl⟩
abbrev main_call1_call0_c_14 : Ref sig .tc := ⟨.hbm, 373, rfl⟩
abbrev main_call1_call0_v60 : Ref sig .tc := ⟨.hbm, 374, rfl⟩
abbrev main_call1_call0_v61 : Ref sig .tc := ⟨.hbm, 375, rfl⟩
abbrev main_call1_call0_v62 : Ref sig .tc := ⟨.hbm, 376, rfl⟩
abbrev main_call1_call0_v63 : Ref sig .tc := ⟨.hbm, 377, rfl⟩
abbrev main_call1_call0_v64 : Ref sig .tc := ⟨.hbm, 378, rfl⟩
abbrev main_call1_call0_c_15 : Ref sig .tc := ⟨.hbm, 379, rfl⟩
abbrev main_call1_call0_v65 : Ref sig .tc := ⟨.hbm, 380, rfl⟩
abbrev main_call1_call0_v66 : Ref sig .tc := ⟨.hbm, 381, rfl⟩
abbrev main_call1_call0_c_16 : Ref sig .tc := ⟨.hbm, 382, rfl⟩
abbrev main_call1_call0_v67 : Ref sig .tc := ⟨.hbm, 383, rfl⟩
abbrev main_call1_call0_v68 : Ref sig .tc := ⟨.hbm, 384, rfl⟩
abbrev main_call1_call0_v69 : Ref sig .tc := ⟨.hbm, 385, rfl⟩
abbrev main_call1_call0_v70 : Ref sig .tc := ⟨.hbm, 386, rfl⟩
abbrev main_call1_call0_v71 : Ref sig .tc := ⟨.hbm, 387, rfl⟩
abbrev main_call1_call0_v72 : Ref sig .tc := ⟨.hbm, 388, rfl⟩
abbrev main_call1_call0_v73 : Ref sig .tc := ⟨.hbm, 389, rfl⟩
abbrev main_call1_call0_v74 : Ref sig .tc := ⟨.hbm, 390, rfl⟩
abbrev main_call1_call0_c_17 : Ref sig .tc := ⟨.hbm, 391, rfl⟩
abbrev main_call1_call0_v75 : Ref sig .tc := ⟨.hbm, 392, rfl⟩
abbrev main_call1_call0_v76 : Ref sig .tc := ⟨.hbm, 393, rfl⟩
abbrev main_call1_call0_v77 : Ref sig .tc := ⟨.hbm, 394, rfl⟩
abbrev main_call1_call0_c_18 : Ref sig .tc := ⟨.hbm, 395, rfl⟩
abbrev main_call1_call0_v78 : Ref sig .tc := ⟨.hbm, 396, rfl⟩
abbrev main_call1_call0_v79 : Ref sig .tc := ⟨.hbm, 397, rfl⟩
abbrev main_call1_call0_c_19 : Ref sig .tc := ⟨.hbm, 398, rfl⟩
abbrev main_call1_call0_v80 : Ref sig .tc := ⟨.hbm, 399, rfl⟩
abbrev main_call1_call0_v81 : Ref sig .tc := ⟨.hbm, 400, rfl⟩
abbrev main_call1_call0_v82 : Ref sig .tc := ⟨.hbm, 401, rfl⟩
abbrev main_call1_call0_v83 : Ref sig .tc := ⟨.hbm, 402, rfl⟩
abbrev main_call1_call0_v84 : Ref sig .tc := ⟨.hbm, 403, rfl⟩
abbrev main_call1_call0_c_20 : Ref sig .tc := ⟨.hbm, 404, rfl⟩
abbrev main_call1_call0_v85 : Ref sig .tc := ⟨.hbm, 405, rfl⟩
abbrev main_call1_call0_v86 : Ref sig .tc := ⟨.hbm, 406, rfl⟩
abbrev main_call1_call0_c_21 : Ref sig .tc := ⟨.hbm, 407, rfl⟩
abbrev main_call1_call0_v87 : Ref sig .tc := ⟨.hbm, 408, rfl⟩
abbrev main_call1_call0_v88 : Ref sig .tc := ⟨.hbm, 409, rfl⟩
abbrev main_call1_call0_v89 : Ref sig .tc := ⟨.hbm, 410, rfl⟩
abbrev main_call1_call0_v90 : Ref sig .tc := ⟨.hbm, 411, rfl⟩
abbrev main_call1_call0_v91 : Ref sig .tc := ⟨.hbm, 412, rfl⟩
abbrev main_call1_call0_c_22 : Ref sig .tc := ⟨.hbm, 413, rfl⟩
abbrev main_call1_call0_v92 : Ref sig .tc := ⟨.hbm, 414, rfl⟩
abbrev main_call1_call0_v93 : Ref sig .tc := ⟨.hbm, 415, rfl⟩
abbrev main_call1_call0_c_23 : Ref sig .tc := ⟨.hbm, 416, rfl⟩
abbrev main_call1_call0_v94 : Ref sig .tc := ⟨.hbm, 417, rfl⟩
abbrev main_call1_call0_v95 : Ref sig .tc := ⟨.hbm, 418, rfl⟩
abbrev main_call1_call0_v96 : Ref sig .tc := ⟨.hbm, 419, rfl⟩
abbrev main_call1_call0_v97 : Ref sig .tc := ⟨.hbm, 420, rfl⟩
abbrev main_call1_call0_v98 : Ref sig .tc := ⟨.hbm, 421, rfl⟩
abbrev main_call1_call0_c_24 : Ref sig .tc := ⟨.hbm, 422, rfl⟩
abbrev main_call1_call0_v99 : Ref sig .tc := ⟨.hbm, 423, rfl⟩
abbrev main_call1_call0_v100 : Ref sig .tc := ⟨.hbm, 424, rfl⟩
abbrev main_call1_call0_c_25 : Ref sig .tc := ⟨.hbm, 425, rfl⟩
abbrev main_call1_call0_v101 : Ref sig .tc := ⟨.hbm, 426, rfl⟩
abbrev main_call1_call0_v102 : Ref sig .tc := ⟨.hbm, 427, rfl⟩
abbrev main_call1_call0_v103 : Ref sig .tc := ⟨.hbm, 428, rfl⟩
abbrev main_call1_call0_v104 : Ref sig .tc := ⟨.hbm, 429, rfl⟩
abbrev main_call1_call0_v105 : Ref sig .tc := ⟨.hbm, 430, rfl⟩
abbrev main_call1_call0_v106 : Ref sig .tc := ⟨.hbm, 431, rfl⟩
abbrev main_call1_call0_v107 : Ref sig .tc := ⟨.hbm, 432, rfl⟩
abbrev main_call1_call0_v108 : Ref sig .tc := ⟨.hbm, 433, rfl⟩
abbrev main_call1_call0_c_26 : Ref sig .tc := ⟨.hbm, 434, rfl⟩
abbrev main_call1_call0_v109 : Ref sig .tc := ⟨.hbm, 435, rfl⟩
abbrev main_call1_call0_v110 : Ref sig .tc := ⟨.hbm, 436, rfl⟩
abbrev main_call1_call0_v111 : Ref sig .tc := ⟨.hbm, 437, rfl⟩
abbrev main_call1_call0_c_27 : Ref sig .tc := ⟨.hbm, 438, rfl⟩
abbrev main_call1_call0_v112 : Ref sig .tc := ⟨.hbm, 439, rfl⟩
abbrev main_call1_call0_v113 : Ref sig .tc := ⟨.hbm, 440, rfl⟩
abbrev main_call1_call0_c_28 : Ref sig .tc := ⟨.hbm, 441, rfl⟩
abbrev main_call1_call0_v114 : Ref sig .tc := ⟨.hbm, 442, rfl⟩
abbrev main_call1_call0_v115 : Ref sig .tc := ⟨.hbm, 443, rfl⟩
abbrev main_call1_call0_v116 : Ref sig .tc := ⟨.hbm, 444, rfl⟩
abbrev main_call1_call0_v117 : Ref sig .tc := ⟨.hbm, 445, rfl⟩
abbrev main_call1_call0_v118 : Ref sig .tc := ⟨.hbm, 446, rfl⟩
abbrev main_call1_call0_c_29 : Ref sig .tc := ⟨.hbm, 447, rfl⟩
abbrev main_call1_call0_v119 : Ref sig .tc := ⟨.hbm, 448, rfl⟩
abbrev main_call1_call0_v120 : Ref sig .tc := ⟨.hbm, 449, rfl⟩
abbrev main_call1_call0_c_30 : Ref sig .tc := ⟨.hbm, 450, rfl⟩
abbrev main_call1_call0_v121 : Ref sig .tc := ⟨.hbm, 451, rfl⟩
abbrev main_call1_call0_v122 : Ref sig .tc := ⟨.hbm, 452, rfl⟩
abbrev main_call1_call0_v123 : Ref sig .tc := ⟨.hbm, 453, rfl⟩
abbrev main_call1_call0_v124 : Ref sig .tc := ⟨.hbm, 454, rfl⟩
abbrev main_call1_call0_v125 : Ref sig .tc := ⟨.hbm, 455, rfl⟩
abbrev main_call1_call0_c_31 : Ref sig .tc := ⟨.hbm, 456, rfl⟩
abbrev main_call1_call0_v126 : Ref sig .tc := ⟨.hbm, 457, rfl⟩
abbrev main_call1_call0_v127 : Ref sig .tc := ⟨.hbm, 458, rfl⟩
abbrev main_call1_call0_c_32 : Ref sig .tc := ⟨.hbm, 459, rfl⟩
abbrev main_call1_call0_v128 : Ref sig .tc := ⟨.hbm, 460, rfl⟩
abbrev main_call1_call0_v129 : Ref sig .tc := ⟨.hbm, 461, rfl⟩
abbrev main_call1_call0_v130 : Ref sig .tc := ⟨.hbm, 462, rfl⟩
abbrev main_call1_call0_v131 : Ref sig .tc := ⟨.hbm, 463, rfl⟩
abbrev main_call1_call0_v132 : Ref sig .tc := ⟨.hbm, 464, rfl⟩
abbrev main_call1_call0_c_33 : Ref sig .tc := ⟨.hbm, 465, rfl⟩
abbrev main_call1_call0_v133 : Ref sig .tc := ⟨.hbm, 466, rfl⟩
abbrev main_call1_call0_v134 : Ref sig .tc := ⟨.hbm, 467, rfl⟩
abbrev main_call1_call0_c_34 : Ref sig .tc := ⟨.hbm, 468, rfl⟩
abbrev main_call1_call0_v135 : Ref sig .tc := ⟨.hbm, 469, rfl⟩
abbrev main_call1_call0_v136 : Ref sig .tc := ⟨.hbm, 470, rfl⟩
abbrev main_call1_call0_v137 : Ref sig .tc := ⟨.hbm, 471, rfl⟩
abbrev main_call1_call0_v138 : Ref sig .tc := ⟨.hbm, 472, rfl⟩
abbrev main_call1_call0_v139 : Ref sig .tc := ⟨.hbm, 473, rfl⟩
abbrev main_call1_call0_v140 : Ref sig .tc := ⟨.hbm, 474, rfl⟩
abbrev main_call1_call0_v141 : Ref sig .tc := ⟨.hbm, 475, rfl⟩
abbrev main_call1_call0_v142 : Ref sig .tc := ⟨.hbm, 476, rfl⟩
abbrev main_call1_call0_c_35 : Ref sig .tc := ⟨.hbm, 477, rfl⟩
abbrev main_call1_call0_v143 : Ref sig .tc := ⟨.hbm, 478, rfl⟩
abbrev main_call1_call0_v144 : Ref sig .tc := ⟨.hbm, 479, rfl⟩
abbrev main_call1_call0_v145 : Ref sig .tc := ⟨.hbm, 480, rfl⟩
abbrev main_call1_call0_c_36 : Ref sig .tc := ⟨.hbm, 481, rfl⟩
abbrev main_call1_call0_v146 : Ref sig .tc := ⟨.hbm, 482, rfl⟩
abbrev main_call1_call0_v147 : Ref sig .tc := ⟨.hbm, 483, rfl⟩
abbrev main_call1_call0_c_37 : Ref sig .tc := ⟨.hbm, 484, rfl⟩
abbrev main_call1_call0_v148 : Ref sig .tc := ⟨.hbm, 485, rfl⟩
abbrev main_call1_call0_v149 : Ref sig .tc := ⟨.hbm, 486, rfl⟩
abbrev main_call1_call0_v150 : Ref sig .tc := ⟨.hbm, 487, rfl⟩
abbrev main_call1_call0_v151 : Ref sig .tc := ⟨.hbm, 488, rfl⟩
abbrev main_call1_call0_v152 : Ref sig .tc := ⟨.hbm, 489, rfl⟩
abbrev main_call1_call0_c_38 : Ref sig .tc := ⟨.hbm, 490, rfl⟩
abbrev main_call1_call0_v153 : Ref sig .tc := ⟨.hbm, 491, rfl⟩
abbrev main_call1_call0_v154 : Ref sig .tc := ⟨.hbm, 492, rfl⟩
abbrev main_call1_call0_c_39 : Ref sig .tc := ⟨.hbm, 493, rfl⟩
abbrev main_call1_call0_v155 : Ref sig .tc := ⟨.hbm, 494, rfl⟩
abbrev main_call1_call0_v156 : Ref sig .tc := ⟨.hbm, 495, rfl⟩
abbrev main_call1_call0_v157 : Ref sig .tc := ⟨.hbm, 496, rfl⟩
abbrev main_call1_call0_v158 : Ref sig .tc := ⟨.hbm, 497, rfl⟩
abbrev main_call1_call0_v159 : Ref sig .tc := ⟨.hbm, 498, rfl⟩
abbrev main_call1_call0_c_40 : Ref sig .tc := ⟨.hbm, 499, rfl⟩
abbrev main_call1_call0_v160 : Ref sig .tc := ⟨.hbm, 500, rfl⟩
abbrev main_call1_call0_v161 : Ref sig .tc := ⟨.hbm, 501, rfl⟩
abbrev main_call1_call0_c_41 : Ref sig .tc := ⟨.hbm, 502, rfl⟩
abbrev main_call1_call0_v162 : Ref sig .tc := ⟨.hbm, 503, rfl⟩
abbrev main_call1_call0_v163 : Ref sig .tc := ⟨.hbm, 504, rfl⟩
abbrev main_call1_call0_v164 : Ref sig .tc := ⟨.hbm, 505, rfl⟩
abbrev main_call1_call0_v165 : Ref sig .tc := ⟨.hbm, 506, rfl⟩
abbrev main_call1_call0_v166 : Ref sig .tc := ⟨.hbm, 507, rfl⟩
abbrev main_call1_call0_c_42 : Ref sig .tc := ⟨.hbm, 508, rfl⟩
abbrev main_call1_call0_v167 : Ref sig .tc := ⟨.hbm, 509, rfl⟩
abbrev main_call1_call0_v168 : Ref sig .tc := ⟨.hbm, 510, rfl⟩
abbrev main_call1_call0_c_43 : Ref sig .tc := ⟨.hbm, 511, rfl⟩
abbrev main_call1_call0_v169 : Ref sig .tc := ⟨.hbm, 512, rfl⟩
abbrev main_call1_call0_v170 : Ref sig .tc := ⟨.hbm, 513, rfl⟩
abbrev main_call1_call0_v171 : Ref sig .tc := ⟨.hbm, 514, rfl⟩
abbrev main_call1_call0_v172 : Ref sig .tc := ⟨.hbm, 515, rfl⟩
abbrev main_call1_call0_v173 : Ref sig .tc := ⟨.hbm, 516, rfl⟩
abbrev main_call1_v31_0 : Ref sig .tc := ⟨.hbm, 517, rfl⟩
abbrev main_call1_call0_v175 : Ref sig .tc := ⟨.hbm, 518, rfl⟩
abbrev main_call1_call0_v176 : Ref sig .tc := ⟨.hbm, 519, rfl⟩
abbrev main_call1_call0_c_44 : Ref sig .tc := ⟨.hbm, 520, rfl⟩
abbrev main_call1_call0_v177 : Ref sig .tc := ⟨.hbm, 521, rfl⟩
abbrev main_call1_v31_1 : Ref sig .tc := ⟨.hbm, 522, rfl⟩
abbrev main_call1_v32 : Ref sig .tc := ⟨.hbm, 523, rfl⟩
abbrev main_call1_c_4 : Ref sig .tc := ⟨.hbm, 524, rfl⟩
abbrev main_call1_v33 : Ref sig .tc := ⟨.hbm, 525, rfl⟩
abbrev main_call1_v34 : Ref sig .tc := ⟨.hbm, 526, rfl⟩
abbrev main_call1_c_5 : Ref sig .tc := ⟨.hbm, 527, rfl⟩
abbrev main_call1_v35 : Ref sig .tc := ⟨.hbm, 528, rfl⟩
abbrev main_call1_v36 : Ref sig .tc := ⟨.hbm, 529, rfl⟩
abbrev main_call1_v37 : Ref sig .tc := ⟨.hbm, 530, rfl⟩
abbrev main_call1_cst : Ref sig .tc := ⟨.hbm, 531, rfl⟩
abbrev main_call1_v38 : Ref sig .tc := ⟨.hbm, 532, rfl⟩
abbrev main_call1_v39 : Ref sig .tc := ⟨.hbm, 533, rfl⟩
abbrev main_call1_v40 : Ref sig .tc := ⟨.hbm, 534, rfl⟩
abbrev main_call1_v41 : Ref sig .tc := ⟨.hbm, 535, rfl⟩
abbrev main_call1_v42 : Ref sig .tc := ⟨.hbm, 536, rfl⟩
abbrev main_call1_v43 : Ref sig .tc := ⟨.hbm, 537, rfl⟩
abbrev main_call1_v44 : Ref sig .tc := ⟨.hbm, 538, rfl⟩
abbrev main_call1_v45 : Ref sig .tc := ⟨.hbm, 539, rfl⟩
abbrev main_call1_v46 : Ref sig .tc := ⟨.hbm, 540, rfl⟩
abbrev main_call1_v47 : Ref sig .tc := ⟨.hbm, 541, rfl⟩
abbrev main_call1_v48 : Ref sig .tc := ⟨.hbm, 542, rfl⟩
abbrev main_v18 : Ref sig .tc := ⟨.hbm, 543, rfl⟩
abbrev main_cst_4 : Ref sig .tc := ⟨.hbm, 544, rfl⟩
abbrev main_v19 : Ref sig .tc := ⟨.hbm, 545, rfl⟩
abbrev main_v20 : Ref sig .tc := ⟨.hbm, 546, rfl⟩
abbrev main_cst_5 : Ref sig .tc := ⟨.hbm, 547, rfl⟩
abbrev main_v21 : Ref sig .tc := ⟨.hbm, 548, rfl⟩
abbrev main_v22 : Ref sig .tc := ⟨.hbm, 549, rfl⟩
abbrev main_cst_6 : Ref sig .tc := ⟨.hbm, 550, rfl⟩
abbrev main_v23 : Ref sig .tc := ⟨.hbm, 551, rfl⟩
abbrev main_v24 : Ref sig .tc := ⟨.hbm, 552, rfl⟩
abbrev main_v25 : Ref sig .tc := ⟨.hbm, 553, rfl⟩
abbrev main_v26 : Ref sig .tc := ⟨.hbm, 554, rfl⟩
abbrev main_v27 : Ref sig .tc := ⟨.hbm, 555, rfl⟩
abbrev main_v28 : Ref sig .tc := ⟨.hbm, 556, rfl⟩
abbrev main_v29 : Ref sig .tc := ⟨.hbm, 557, rfl⟩
abbrev main_call2_v0 : Ref sig .tc := ⟨.hbm, 558, rfl⟩
abbrev main_call2_cst : Ref sig .tc := ⟨.hbm, 559, rfl⟩
abbrev main_call2_c : Ref sig .tc := ⟨.hbm, 560, rfl⟩
abbrev main_call2_v1_0 : Ref sig .tc := ⟨.hbm, 561, rfl⟩
abbrev main_v30 : Ref sig .tc := ⟨.hbm, 562, rfl⟩
abbrev main_v31 : Ref sig .tc := ⟨.hbm, 563, rfl⟩
abbrev main_v32 : Ref sig .tc := ⟨.hbm, 564, rfl⟩
abbrev main_v33 : Ref sig .tc := ⟨.hbm, 565, rfl⟩
abbrev main_call3_v0 : Ref sig .tc := ⟨.hbm, 566, rfl⟩
abbrev main_call3_v1 : Ref sig .tc := ⟨.hbm, 567, rfl⟩
abbrev main_call3_v2 : Ref sig .tc := ⟨.hbm, 568, rfl⟩
abbrev main_call3_v3 : Ref sig .tc := ⟨.hbm, 569, rfl⟩
abbrev main_call3_v4 : Ref sig .tc := ⟨.hbm, 570, rfl⟩
abbrev main_v34 : Ref sig .tc := ⟨.hbm, 571, rfl⟩
abbrev main_cst_7 : Ref sig .tc := ⟨.hbm, 572, rfl⟩
abbrev main_v35 : Ref sig .tc := ⟨.hbm, 573, rfl⟩
abbrev main_v36 : Ref sig .tc := ⟨.hbm, 574, rfl⟩

abbrev nD : Nat := 1
abbrev τ : Topo := Topo.v7x

variable {F : FTy → Type} [FloatOps F]
-- ==== Proof.Threefry.lean ====
/-
  The block cipher (threefry, two words of 32 bits, twenty rounds) on words: what the reference's two calls of it and the
  kernel's unrolled rounds both compute.
-/
module

public import Idealize.ShloMosaic.PureOps.Ideal
public import Idealize.ShloMosaic.Lib.Pointwise

@[expose] public section

namespace Cert.Cipher

/-- The cipher's state: two words. -/
abbrev State := BitVec 32 × BitVec 32

/-- One round: the words added, the second rotated left by `r` and mixed with the sum. -/
def round (r : BitVec 32) (s : State) : State :=
  (s.1 + s.2, (s.1 + s.2) ^^^ (s.2 <<< r ||| s.2 >>> (32 - r)))

/-- A key injection: the words `a` and `b` of the key added, and the injection's number `j`. -/
def inject (a b j : BitVec 32) (s : State) : State := (s.1 + a, s.2 + b + j)

/-- The first kind of four rounds. -/
def evenRounds (s : State) : State := round 6 (round 26 (round 15 (round 13 s)))

/-- The second kind of four rounds. -/
def oddRounds (s : State) : State := round 24 (round 16 (round 29 (round 17 s)))

/-- The key's third word. -/
def thirdWord (k0 k1 : BitVec 32) : BitVec 32 := k0 ^^^ k1 ^^^ 0x1BD11BDA

/-- The cipher's twenty rounds and five injections, after the key has been added to the counter, under the key's three
    words. -/
def rounds (k0 k1 k2 : BitVec 32) (s : State) : State :=
  inject k2 k0 5 (evenRounds (inject k1 k2 4 (oddRounds (inject k0 k1 3 (evenRounds (inject k2 k0 2 (oddRounds
    (inject k1 k2 1 (evenRounds s)))))))))

/-- The cipher under the key `k0, k1` at the counter `x0, x1`. -/
def threefry (k0 k1 x0 x1 : BitVec 32) : State := rounds k0 k1 (thirdWord k0 k1) (x0 + k0, x1 + k1)

/-- The random word the cipher draws: the exclusive or of its two words. -/
def word (k0 k1 x0 x1 : BitVec 32) : BitVec 32 := (threefry k0 k1 x0 x1).1 ^^^ (threefry k0 k1 x0 x1).2

/-- The key of split `s`: the split's number folded into the seed's key. -/
def key (s : Fin 4) : State := threefry 0 42 0 (BitVec.ofNat 32 s)

end Cert.Cipher
-- ==== Proof.Noise.lean ====
/-
  The noise of a random word over the reals: a fraction in [0, 1) from the word's leading 23 bits, the smallest normal
  number added, and minus the logarithm of minus its logarithm. The noise is a real number, whatever the word.
-/
module

public import Idealize.ShloMosaic.PureOps.Ideal
public import Idealize.ShloMosaic.Lib.Pointwise
public import Idealize.ShloMosaic.Lib.IdealHost

@[expose] public section

noncomputable section

namespace Cert.Noise

open Idealize.ShloMosaic

/-- The smallest normal number of the format, two to the power −126. -/
def tiny : EReal := Ideal.ofBits .f32 0x00800000#32

/-- The fraction a random word gives: its leading 23 bits as the mantissa of a number in [1, 2), less one. -/
def fraction (m : BitVec 32) : EReal := Ideal.ofBits .f32 (m >>> 9 ||| 0x3F800000#32) - 1

/-- The noise a random word gives. -/
def noise (m : BitVec 32) : EReal := -Ideal.log (-Ideal.log (fraction m + tiny))

/-- The smallest normal number is two to the power −126. -/
theorem tiny_eq : tiny = ((2 ^ (-126 : ℤ) : ℝ) : EReal) := by
  have hex : (0x00800000#32).extractLsb' 23 8 = 1#8 := by decide
  have hfr : (0x00800000#32).extractLsb' 0 23 = 0#23 := by decide
  have hsg : (0x00800000#32).extractLsb' 31 1 = 0#1 := by decide
  unfold tiny
  simp only [Ideal.ofBits, Ideal.ieee, hex, hfr, hsg]
  norm_num

/-- The least number, as a constant. -/
theorem negInf_eq : Ideal.ofBits .f32 0xFF800000#32 = ⊥ := by
  have hex : (0xFF800000#32).extractLsb' 23 8 = 255#8 := by decide
  have hfr : (0xFF800000#32).extractLsb' 0 23 = 0#23 := by decide
  have hsg : (0xFF800000#32).extractLsb' 31 1 = 1#1 := by decide
  simp only [Ideal.ofBits, Ideal.ieee, hex, hfr, hsg]
  norm_num

/-- The sign, the exponent and the mantissa of a word with the exponent of [1, 2). -/
theorem fields (m : BitVec 32) :
    (m >>> 9 ||| 0x3F800000#32).extractLsb' 31 1 = 0#1 ∧ (m >>> 9 ||| 0x3F800000#32).extractLsb' 23 8 = 127#8
      ∧ (m >>> 9 ||| 0x3F800000#32).extractLsb' 0 23 = (m >>> 9).setWidth 23 := by
  refine ⟨?_, ?_, ?_⟩ <;> refine BitVec.eq_of_getLsbD_eq fun i hi => ?_ <;> interval_cases i <;> simp

/-- A word with the exponent of [1, 2) and a mantissa of 23 bits is one plus the mantissa's fraction. -/
theorem mantissa (m : BitVec 32) :
    Ideal.ofBits .f32 (m >>> 9 ||| 0x3F800000#32) = ((1 + (m.toNat / 512 : ℕ) / 2 ^ 23 : ℝ) : EReal) := by
  obtain ⟨hsg, hex, hfr⟩ := fields m
  have hm : ((m >>> 9).setWidth 23).toNat = m.toNat / 512 := by
    have := m.isLt
    rw [BitVec.toNat_setWidth, BitVec.toNat_ushiftRight, Nat.shiftRight_eq_div_pow]
    exact Nat.mod_eq_of_lt (by omega)
  simp only [Ideal.ofBits, Ideal.ieee, hex, hfr, hsg, hm]
  rw [if_neg (by decide), if_neg (by decide)]
  refine congrArg Real.toEReal ?_
  norm_num
  ring

/-- The fraction is a real number of [0, 1 − 2⁻²³]. -/
theorem fraction_eq (m : BitVec 32) : ∃ r : ℝ, 0 ≤ r ∧ r ≤ 1 - 2⁻¹ ^ 23 ∧ fraction m = (r : EReal) := by
  have := m.isLt
  have hk : ((m.toNat / 512 : ℕ) : ℝ) ≤ 2 ^ 23 - 1 := by
    have : m.toNat / 512 + 1 ≤ 2 ^ 23 := by omega
    have : ((m.toNat / 512 + 1 : ℕ) : ℝ) ≤ (2 ^ 23 : ℕ) := by exact_mod_cast this
    push_cast at this ⊢
    linarith
  refine ⟨(m.toNat / 512 : ℕ) / 2 ^ 23, by positivity, ?_, ?_⟩
  · rw [div_le_iff₀ (by positivity)]
    linarith [show ((1 : ℝ) - 2⁻¹ ^ 23) * 2 ^ 23 = 2 ^ 23 - 1 by norm_num]
  · rw [fraction, mantissa, show (1 : EReal) = ((1 : ℝ) : EReal) from rfl, ← EReal.coe_sub]
    norm_num

/-- The fraction is not negative. -/
theorem fraction_nonneg (m : BitVec 32) : 0 ≤ fraction m := by
  obtain ⟨r, h0, -, hr⟩ := fraction_eq m
  rw [hr]; exact_mod_cast h0

/-- The smallest normal number is not negative. -/
theorem tiny_nonneg : 0 ≤ tiny := by
  rw [tiny_eq]; exact_mod_cast (by positivity : (0 : ℝ) ≤ 2 ^ (-126 : ℤ))

/-- The noise is a real number. -/
theorem noise_real (m : BitVec 32) : ∃ r : ℝ, noise m = (r : EReal) := by
  obtain ⟨r, h0, h1, hr⟩ := fraction_eq m
  have ht : (0 : ℝ) < 2 ^ (-126 : ℤ) := by positivity
  have ht' : (2 : ℝ) ^ (-126 : ℤ) < 2⁻¹ ^ 23 := by norm_num
  have hsum : r + 2 ^ (-126 : ℤ) < 1 := by
    generalize (2 : ℝ)⁻¹ ^ 23 = a at h1 ht'
    generalize (2 : ℝ) ^ (-126 : ℤ) = e at ht ht' ⊢
    linarith
  have hlog : Real.log (r + 2 ^ (-126 : ℤ)) < 0 := Real.log_neg (by positivity) hsum
  refine ⟨-Real.log (-Real.log (r + 2 ^ (-126 : ℤ))), ?_⟩
  rw [noise, hr, tiny_eq, ← EReal.coe_add, Ideal.log_coe, if_neg (by linarith), ← EReal.coe_neg, Ideal.log_coe,
    if_neg (by linarith), ← EReal.coe_neg]

end Cert.Noise
-- ==== Proof.Spec.lean ====
/-
  What the problem asks, entry by entry: in each of the four splits of the channels, one channel is drawn by the largest
  noisy logit, the noise of a channel a function of its number alone; the result is the indicator of the channel drawn.
-/
module

public import proofs.«01_k».proof.Proof.Threefry
public import proofs.«01_k».proof.Proof.Noise

@[expose] public section

noncomputable section

namespace Cert.Spec

open Idealize.ShloMosaic Cert.Cipher Cert.Noise

/-- The channel `c` of four is the first of the largest. -/
def Wins (v : Fin 4 → EReal) (c : Fin 4) : Prop := (∀ j, j < c → v j < v c) ∧ ∀ j, c < j → v j ≤ v c

/-- At most one channel is the first of the largest. -/
theorem Wins.unique {v : Fin 4 → EReal} {c d : Fin 4} (hc : Wins v c) (hd : Wins v d) : c = d := by
  rcases lt_trichotomy c d with h | h | h
  · exact absurd (hd.1 c h) (hc.2 d h).not_gt
  · exact h
  · exact absurd (hc.1 d h) (hd.2 c h).not_gt

/-- The number of the draw for channel `c` of site `b, h, w` in a split. -/
def counter (b : Fin 1024) (h w : Fin 32) (c : Fin 4) : BitVec 32 := BitVec.ofNat 32 (((b.val * 32 + h.val) * 32 + w.val) * 4 + c.val)

/-- The noise of channel `c` of site `b, h, w` in split `s`. -/
def draw (s : Fin 4) (b : Fin 1024) (h w : Fin 32) (c : Fin 4) : EReal :=
  noise (word (key s).1 (key s).2 0 (counter b h w c))

/-- The channel of the sixteen that is channel `c` of split `s`. -/
def channel (s c : Fin 4) : Fin 16 := ⟨s.val * 4 + c.val, by omega⟩

/-- The noisy logits of a split at a site. -/
def score (x : (⟨4, ![1024, 32, 32, 16]⟩ : Shape).Idx → EReal) (s : Fin 4) (b : Fin 1024) (h w : Fin 32) (c : Fin 4) : EReal :=
  x (ix4 b h w (channel s c)) + draw s b h w c

/-- The indicator of a channel being drawn in its split. -/
def chosen (x : (⟨4, ![1024, 32, 32, 16]⟩ : Shape).Idx → EReal) (s : Fin 4) (b : Fin 1024) (h w : Fin 32) (c : Fin 4) : EReal :=
  open Classical in if Wins (score x s b h w) c then 1 else 0

/-- The site and channel of a lane of the result: its column. -/
def laneSite (l : Fin 512) : Fin 32 := ⟨l.val / 16, by omega⟩
/-- The site and channel of a lane of the result: its split. -/
def laneSplit (l : Fin 512) : Fin 4 := ⟨l.val % 16 / 4, by omega⟩
/-- The site and channel of a lane of the result: its channel in the split. -/
def laneChannel (l : Fin 512) : Fin 4 := ⟨l.val % 4, by omega⟩

/-- The result at an index. -/
def result (x : (⟨4, ![1024, 32, 32, 16]⟩ : Shape).Idx → EReal) (b : Fin 1024) (h : Fin 32) (l : Fin 512) : EReal :=
  chosen x (laneSplit l) b h (laneSite l) (laneChannel l)

end Cert.Spec
-- ==== Proof.KernelRounds.lean ====
/-
  The kernel's unrolled rounds read at an index of a block: they are the rounds of the cipher on the words there, the
  words of the key read from the table's rows.
-/
module

public import proofs.«01_k».proof.Proof.Spec
public import proofs.«01_k».proof.Proof.Gen.KernelIdeal.Skeleton

@[expose] public section

namespace Cert.KernelIdeal.Block

open Cert.KernelIdeal Cert.KernelIdeal.Gen Cert.Cipher Cert.Noise
open Idealize.ShloMosaic

/-- Two words added to the state. -/
def mix (a b : BitVec 32) (s : State) : State := (s.1 + a, s.2 + b)

/-- One round, as the kernel writes it. -/
theorem round_eq (r : BitVec 32) {a b a' b' : BitVec 32} (h : a' = a + b) (h' : b' = (b <<< r ||| b >>> (32 - r)) ^^^ a') :
    (a', b') = round r (a, b) := by
  rw [h', h, BitVec.xor_comm]; rfl

variable (i : Fin 64) (j : Fin 32) (l : Fin 512)

/-- The first four rounds. -/
theorem rounds1 (v2 : Vec Ideal S1x1x512 .i32) (v5 : Vec Ideal S64x32x1 .i32) (v7 : Vec Ideal S1x1x512 .i32) :
    (k0_pay9 v2 v5 v7 (ix3 i j l), k0_pay10 v2 v5 v7 (ix3 i j l))
      = evenRounds (v2 (ix3 0 0 l), v5 (ix3 i j 0) + v7 (ix3 0 0 l)) := by
  have h2 : k0_pay2 (F := Ideal) v5 v7 (ix3 i j l) = v5 (ix3 i j 0) + v7 (ix3 0 0 l) := by pointwise [k0_pay2]; rfl
  have h3 : k0_pay3 (F := Ideal) v2 v5 v7 (ix3 i j l) = v2 (ix3 0 0 l) + k0_pay2 (F := Ideal) v5 v7 (ix3 i j l) := by
    rw [k0_pay3]; pointwise; rfl
  have e1 : (k0_pay3 (F := Ideal) v2 v5 v7 (ix3 i j l), k0_pay4 (F := Ideal) v2 v5 v7 (ix3 i j l)) = round 13 (v2 (ix3 0 0 l), _) := round_eq 13 h3 rfl
  have e2 : (k0_pay5 (F := Ideal) v2 v5 v7 (ix3 i j l), k0_pay6 (F := Ideal) v2 v5 v7 (ix3 i j l)) = round 15 _ := round_eq 15 rfl rfl
  have e3 : (k0_pay7 (F := Ideal) v2 v5 v7 (ix3 i j l), k0_pay8 (F := Ideal) v2 v5 v7 (ix3 i j l)) = round 26 _ := round_eq 26 rfl rfl
  have e4 : (k0_pay9 (F := Ideal) v2 v5 v7 (ix3 i j l), k0_pay10 (F := Ideal) v2 v5 v7 (ix3 i j l)) = round 6 _ := round_eq 6 rfl rfl
  rw [e4, e3, e2, e1, h2]; rfl

/-- A row of the table, broadcast over the block, read at an index. -/
theorem row_at (v : Vec Ideal S1x1x512 .i32) :
    broadcastTo S64x32x512 v broadcasts_S1x1x512_S64x32x512 (ix3 i j l) = v (ix3 0 0 l) := by
  pointwise

/-- The second four rounds, a word of the key added to each word before them and after them. -/
theorem rounds2 (v32 v38 : IVec S64x32x512 32) (v39 v42 v73 v76 : Vec Ideal S1x1x512 .i32) :
    (k0_pay19 v32 v38 v39 v42 v73 (ix3 i j l), k0_pay20 v32 v38 v39 v42 v76 (ix3 i j l))
      = mix (v73 (ix3 0 0 l)) (v76 (ix3 0 0 l))
          (oddRounds (mix (v39 (ix3 0 0 l)) (v42 (ix3 0 0 l)) (v32 (ix3 i j l), v38 (ix3 i j l)))) := by
  have e0 : (v32 (ix3 i j l) + v39 (ix3 0 0 l), k0_pay11 (F := Ideal) v38 v42 (ix3 i j l))
      = mix (v39 (ix3 0 0 l)) (v42 (ix3 0 0 l)) (v32 (ix3 i j l), v38 (ix3 i j l)) := by
    rw [k0_pay11]; pointwise; rfl
  have h1 : k0_pay12 (F := Ideal) v32 v38 v39 v42 (ix3 i j l)
      = v32 (ix3 i j l) + v39 (ix3 0 0 l) + k0_pay11 (F := Ideal) v38 v42 (ix3 i j l) := by
    rw [← row_at i j l v39]; rfl
  have e1 : (k0_pay12 (F := Ideal) v32 v38 v39 v42 (ix3 i j l), k0_pay13 (F := Ideal) v32 v38 v39 v42 (ix3 i j l)) = round 17 _ := round_eq 17 h1 rfl
  have e2 : (k0_pay14 (F := Ideal) v32 v38 v39 v42 (ix3 i j l), k0_pay15 (F := Ideal) v32 v38 v39 v42 (ix3 i j l)) = round 29 _ := round_eq 29 rfl rfl
  have e3 : (k0_pay16 (F := Ideal) v32 v38 v39 v42 (ix3 i j l), k0_pay17 (F := Ideal) v32 v38 v39 v42 (ix3 i j l)) = round 16 _ := round_eq 16 rfl rfl
  rw [← e0, oddRounds, ← e1, ← e2, ← e3, ← row_at i j l v73, ← row_at i j l v76,
    ← round_eq 24 (a' := k0_pay18 (F := Ideal) v32 v38 v39 v42 (ix3 i j l)) rfl rfl]
  rfl

/-- The third four rounds, a word of the key added to each word after them, and the round after that. -/
theorem rounds3 (v75 v78 : IVec S64x32x512 32) (v107 v110 : Vec Ideal S1x1x512 .i32) :
    (k0_pay29 v75 v78 v107 v110 (ix3 i j l), k0_pay30 v75 v78 v107 v110 (ix3 i j l))
      = round 17 (mix (v107 (ix3 0 0 l)) (v110 (ix3 0 0 l)) (evenRounds (v75 (ix3 i j l), v78 (ix3 i j l)))) := by
  have e1 : (k0_pay21 v75 v78 (ix3 i j l), k0_pay22 v75 v78 (ix3 i j l)) = round 13 _ := round_eq 13 rfl rfl
  have e2 : (k0_pay23 v75 v78 (ix3 i j l), k0_pay24 v75 v78 (ix3 i j l)) = round 15 _ := round_eq 15 rfl rfl
  have e3 : (k0_pay25 v75 v78 (ix3 i j l), k0_pay26 v75 v78 (ix3 i j l)) = round 26 _ := round_eq 26 rfl rfl
  rw [evenRounds, ← e1, ← e2, ← e3, ← row_at i j l v107, ← row_at i j l v110,
    ← round_eq 6 (a' := k0_pay27 v75 v78 (ix3 i j l)) rfl rfl]
  exact round_eq 17 rfl rfl

/-- The first sum of the round after those the third part ends with. -/
theorem sum3 (v75 v78 : IVec S64x32x512 32) (v107 v110 : Vec Ideal S1x1x512 .i32) :
    k0_pay31 v75 v78 v107 v110 (ix3 i j l)
      = k0_pay29 v75 v78 v107 v110 (ix3 i j l) + k0_pay30 v75 v78 v107 v110 (ix3 i j l) := rfl

/-- The other three rounds of the fourth four, a word of the key added to each word after them, and the two rounds after
    that. -/
theorem rounds4 (a : BitVec 32) (v119 v120 : IVec S64x32x512 32) (v141 v144 : Vec Ideal S1x1x512 .i32)
    (h : v120 (ix3 i j l) = a + v119 (ix3 i j l)) :
    (k0_pay40 v119 v120 k0_pay32 v141 v144 (ix3 i j l), k0_pay41 v119 v120 k0_pay32 v141 v144 (ix3 i j l))
      = round 15 (round 13 (mix (v141 (ix3 0 0 l)) (v144 (ix3 0 0 l))
          (round 24 (round 16 (round 29 (a, v119 (ix3 i j l))))))) := by
  have e1 : (v120 (ix3 i j l), k0_pay33 v119 v120 k0_pay32 (ix3 i j l)) = round 29 _ := round_eq 29 h rfl
  have e2 : (k0_pay34 v119 v120 k0_pay32 (ix3 i j l), k0_pay35 v119 v120 k0_pay32 (ix3 i j l)) = round 16 _ :=
    round_eq 16 rfl rfl
  rw [← e1, ← e2, ← row_at i j l v141, ← row_at i j l v144,
    ← round_eq 24 (a' := k0_pay36 v119 v120 k0_pay32 (ix3 i j l)) rfl rfl]
  have e3 : (k0_pay38 (F := Ideal) v119 v120 k0_pay32 v141 v144 (ix3 i j l), k0_pay39 (F := Ideal) v119 v120 k0_pay32 v141 v144 (ix3 i j l))
      = round 13 _ := round_eq 13 rfl rfl
  refine (round_eq 15 rfl rfl).trans (congrArg _ (e3.trans (congrArg _ ?_)))
  rfl

/-- The last two rounds and the words of the key after them, and the noise of the words' exclusive or, added to the
    block of logits. -/
theorem perturbed (v1 : FVec Ideal S64x32x512 .f32) (v119 v120 : IVec S64x32x512 32)
    (v121 : IVec S64x32x512 32) (v141 v144 v175 v178 : Vec Ideal S1x1x512 .i32) (s : State)
    (h : (k0_pay40 (F := Ideal) v119 v120 v121 v141 v144 (ix3 i j l), k0_pay41 (F := Ideal) v119 v120 v121 v141 v144 (ix3 i j l)) = s) :
    k0_pay45 v1 (k0_pay41 v119 v120 v121 v141 v144) (k0_pay42 v119 v120 v121 v141 v144)
        (k0_pay43 v119 v120 v121 v141 v144) k0_pay44 v175 v178 (ix3 i j l)
      = (v1 (ix3 i j l) : EReal) + noise ((mix (v175 (ix3 0 0 l)) (v178 (ix3 0 0 l)) (round 6 (round 26 s))).1
          ^^^ (mix (v175 (ix3 0 0 l)) (v178 (ix3 0 0 l)) (round 6 (round 26 s))).2) := by
  rw [← h, ← row_at i j l v175, ← row_at i j l v178, ← round_eq 26 (a' := k0_pay42 (F := Ideal) v119 v120 v121 v141 v144 (ix3 i j l)) rfl rfl,
    ← round_eq 6 rfl rfl, noise, ← zero_sub, ← zero_sub (Ideal.log _), ← Ideal.ofBits_zero_f32]
  unfold fraction
  rw [← Ideal.ofBits_one_f32]
  rfl

end Cert.KernelIdeal.Block
-- ==== Proof.KernelNoise.lean ====
/-
  The noisy logits the kernel's body computes, at an index of a block: the logit and the noise of the random word under the
  key in the table's column.
-/
module

public import proofs.«01_k».proof.Proof.KernelRounds
public import proofs.«01_k».proof.Proof.Gen.KernelIdeal.Frame

@[expose] public section

noncomputable section

namespace Cert.KernelIdeal.Block

open Cert.KernelIdeal Cert.KernelIdeal.Gen Cert.Cipher Cert.Noise
open Idealize.ShloMosaic

/-- The noisy logits of a block. -/
def noisy (x0 : Vec Ideal S64x32x512 .f32) (x1 : Vec Ideal S9x1x512 .i32) (x2 : Vec Ideal S6x1x512 .f32)
    (x3 : Vec Ideal S64x32x1 .i32) : FVec Ideal S64x32x512 .f32 :=
  k0_pay45 (k0_pay49 x0 x1 x2 x3) (k0_pay57 x0 x1 x2 x3) (k0_pay58 x0 x1 x2 x3) (k0_pay59 x0 x1 x2 x3)
    (k0_pay60 x0 x1 x2 x3) (View.ld x1 r0_6) (View.ld x1 r0_10)

/-- A column of the table holds a key's words and their injections' sums. -/
structure Column (x1 : Vec Ideal S9x1x512 .i32) (l : Fin 512) (k0 k1 base : BitVec 32) : Prop where
  row0 : x1 (ix3 0 0 l) = k0
  row1 : x1 (ix3 1 0 l) = k1
  row2 : x1 (ix3 2 0 l) = thirdWord k0 k1
  row3 : x1 (ix3 3 0 l) = base + k1
  row4 : x1 (ix3 4 0 l) = thirdWord k0 k1 + 1
  row5 : x1 (ix3 5 0 l) = k0 + 2
  row6 : x1 (ix3 6 0 l) = k1 + 3
  row7 : x1 (ix3 7 0 l) = thirdWord k0 k1 + 4
  row8 : x1 (ix3 8 0 l) = k0 + 5

/-- An injection adds the key's word and the injection's number at once. -/
theorem mix_eq (a b j : BitVec 32) (s : State) : mix a (b + j) s = inject a b j s := by
  rw [mix, inject, BitVec.add_assoc]

/-- The noisy logits at an index of the block. -/
theorem noisy_at (x0 : Vec Ideal S64x32x512 .f32) (x1 : Vec Ideal S9x1x512 .i32) (x2 : Vec Ideal S6x1x512 .f32)
    (x3 : Vec Ideal S64x32x1 .i32) (i : Fin 64) (j : Fin 32) (l : Fin 512) {k0 k1 base : BitVec 32}
    (h : Column x1 l k0 k1 base) :
    noisy x0 x1 x2 x3 (ix3 i j l) = (x0 (ix3 i j l) : EReal) + noise (word k0 k1 0 (x3 (ix3 i j 0) + base)) := by
  have e0 : View.ld x1 r0_1 (ix3 0 0 l) = k0 := .trans (by pointwise) h.row0
  have e1 : View.ld x1 r0_4 (ix3 0 0 l) = k1 := .trans (by pointwise) h.row1
  have e2 : View.ld x1 r0_6 (ix3 0 0 l) = thirdWord k0 k1 := .trans (by pointwise) h.row2
  have e3 : View.ld x1 r0_3 (ix3 0 0 l) = base + k1 := .trans (by pointwise) h.row3
  have e4 : View.ld x1 r0_5 (ix3 0 0 l) = thirdWord k0 k1 + 1 := .trans (by pointwise) h.row4
  have e5 : View.ld x1 r0_7 (ix3 0 0 l) = k0 + 2 := .trans (by pointwise) h.row5
  have e6 : View.ld x1 r0_8 (ix3 0 0 l) = k1 + 3 := .trans (by pointwise) h.row6
  have e7 : View.ld x1 r0_9 (ix3 0 0 l) = thirdWord k0 k1 + 4 := .trans (by pointwise) h.row7
  have e8 : View.ld x1 r0_10 (ix3 0 0 l) = k0 + 5 := .trans (by pointwise) h.row8
  have en : View.ld x3 r0_2 (ix3 i j 0) = x3 (ix3 i j 0) := by pointwise
  have ex : k0_pay49 x0 x1 x2 x3 (ix3 i j l) = x0 (ix3 i j l) := by rw [k0_pay49]; pointwise [k0_pay1]
  have s1 : (k0_pay50 x0 x1 x2 x3 (ix3 i j l), k0_pay51 x0 x1 x2 x3 (ix3 i j l)) = _ :=
    rounds1 i j l (View.ld x1 r0_1) (View.ld x3 r0_2) (View.ld x1 r0_3)
  have s2 : (k0_pay52 x0 x1 x2 x3 (ix3 i j l), k0_pay53 x0 x1 x2 x3 (ix3 i j l)) = _ :=
    rounds2 i j l (k0_pay50 x0 x1 x2 x3) (k0_pay51 x0 x1 x2 x3) (View.ld x1 r0_4) (View.ld x1 r0_5) (View.ld x1 r0_6) (View.ld x1 r0_7)
  have s3 : (k0_pay29 (k0_pay52 x0 x1 x2 x3) (k0_pay53 x0 x1 x2 x3) (View.ld x1 r0_1) (View.ld x1 r0_8) (ix3 i j l),
      k0_pay54 x0 x1 x2 x3 (ix3 i j l)) = _ :=
    rounds3 i j l (k0_pay52 x0 x1 x2 x3) (k0_pay53 x0 x1 x2 x3) (View.ld x1 r0_1) (View.ld x1 r0_8)
  have s4 := rounds4 i j l _ (k0_pay54 x0 x1 x2 x3) (k0_pay55 x0 x1 x2 x3) (View.ld x1 r0_4) (View.ld x1 r0_9)
    (sum3 i j l (k0_pay52 x0 x1 x2 x3) (k0_pay53 x0 x1 x2 x3) (View.ld x1 r0_1) (View.ld x1 r0_8))
  have s5 := perturbed i j l (k0_pay49 x0 x1 x2 x3) (k0_pay54 x0 x1 x2 x3) (k0_pay55 x0 x1 x2 x3) k0_pay32
    (View.ld x1 r0_4) (View.ld x1 r0_9) (View.ld x1 r0_6) (View.ld x1 r0_10) _ s4
  rw [e0, e3, en] at s1
  rw [e1, e2, e4, e5, mix_eq, mix_eq, s1] at s2
  rw [e0, e6, mix_eq, s2] at s3
  rw [e1, e2, e7, e8, mix_eq, mix_eq, s3, ex] at s5
  refine Eq.trans s5 ?_
  rw [word, threefry, rounds, BitVec.add_assoc, show (0 : BitVec 32) + k0 = k0 from BitVec.zero_add k0]
  rfl

end Cert.KernelIdeal.Block
-- ==== Proof.KernelRoll.lean ====
/-
  The kernel's rolls along the lanes, read at an index: a block's lane some steps before or after, around the end.
-/
module

public import proofs.«01_k».proof.Proof.KernelNoise

@[expose] public section

noncomputable section

namespace Cert.KernelIdeal.Block

open Cert.KernelIdeal Cert.KernelIdeal.Gen Idealize.ShloMosaic

/-- The lane `k` steps after `l`, around the end. -/
def turn (l : Fin 512) (k : ℕ) : Fin 512 := ⟨(l.val + k) % 512, by omega⟩

variable (v : FVec Ideal S64x32x512 .f32) (i : Fin 64) (j : Fin 32) (l : Fin 512)

/-- A lane of a roll is the lane its number says. -/
theorem lane_eq {a : Fin 512} {k : ℕ} (h : a.val = (l.val + k) % 512) : v (ix3 i j a) = v (ix3 i j (turn l k)) := by
  rw [show a = turn l k from Fin.ext h]

/-- The lane before. -/
theorem back1 : concatenate S64x32x512 2
      [⟨S64x32x1, extractStridedSlice S64x32x1 ![0, 0, 511] v slices_S64x32x512_o0_0_511_S64x32x1⟩,
       ⟨S64x32x511, extractStridedSlice S64x32x511 ![0, 0, 0] v slices_S64x32x512_o0_0_0_S64x32x511⟩]
      concatenates_S64x32x1_S64x32x511_S64x32x512_d2 (ix3 i j l) = v (ix3 i j (turn l 511)) := by
  pointwise
  split <;> exact lane_eq v i j l (by dsimp only; omega)

/-- The lane two before. -/
theorem back2 : concatenate S64x32x512 2
      [⟨S64x32x2, extractStridedSlice S64x32x2 ![0, 0, 510] v slices_S64x32x512_o0_0_510_S64x32x2⟩,
       ⟨S64x32x510, extractStridedSlice S64x32x510 ![0, 0, 0] v slices_S64x32x512_o0_0_0_S64x32x510⟩]
      concatenates_S64x32x2_S64x32x510_S64x32x512_d2 (ix3 i j l) = v (ix3 i j (turn l 510)) := by
  pointwise
  split <;> exact lane_eq v i j l (by dsimp only; omega)

/-- The lane three before. -/
theorem back3 : concatenate S64x32x512 2
      [⟨S64x32x3, extractStridedSlice S64x32x3 ![0, 0, 509] v slices_S64x32x512_o0_0_509_S64x32x3⟩,
       ⟨S64x32x509, extractStridedSlice S64x32x509 ![0, 0, 0] v slices_S64x32x512_o0_0_0_S64x32x509⟩]
      concatenates_S64x32x3_S64x32x509_S64x32x512_d2 (ix3 i j l) = v (ix3 i j (turn l 509)) := by
  pointwise
  split <;> exact lane_eq v i j l (by dsimp only; omega)

/-- The lane after. -/
theorem ahead1 : concatenate S64x32x512 2
      [⟨S64x32x511, extractStridedSlice S64x32x511 ![0, 0, 1] v slices_S64x32x512_o0_0_1_S64x32x511⟩,
       ⟨S64x32x1, extractStridedSlice S64x32x1 ![0, 0, 0] v slices_S64x32x512_o0_0_0_S64x32x1⟩]
      concatenates_S64x32x511_S64x32x1_S64x32x512_d2 (ix3 i j l) = v (ix3 i j (turn l 1)) := by
  pointwise
  split <;> exact lane_eq v i j l (by dsimp only; omega)

/-- The lane two after. -/
theorem ahead2 : concatenate S64x32x512 2
      [⟨S64x32x510, extractStridedSlice S64x32x510 ![0, 0, 2] v slices_S64x32x512_o0_0_2_S64x32x510⟩,
       ⟨S64x32x2, extractStridedSlice S64x32x2 ![0, 0, 0] v slices_S64x32x512_o0_0_0_S64x32x2⟩]
      concatenates_S64x32x510_S64x32x2_S64x32x512_d2 (ix3 i j l) = v (ix3 i j (turn l 2)) := by
  pointwise
  split <;> exact lane_eq v i j l (by dsimp only; omega)

/-- The lane three after. -/
theorem ahead3 : concatenate S64x32x512 2
      [⟨S64x32x509, extractStridedSlice S64x32x509 ![0, 0, 3] v slices_S64x32x512_o0_0_3_S64x32x509⟩,
       ⟨S64x32x3, extractStridedSlice S64x32x3 ![0, 0, 0] v slices_S64x32x512_o0_0_0_S64x32x3⟩]
      concatenates_S64x32x509_S64x32x3_S64x32x512_d2 (ix3 i j l) = v (ix3 i j (turn l 3)) := by
  pointwise
  split <;> exact lane_eq v i j l (by dsimp only; omega)

/-- A row of the offsets, broadcast over the block, read at an index. -/
theorem offset_at (o : Vec Ideal S1x1x512 .f32) :
    broadcastTo S64x32x512 o broadcasts_S1x1x512_S64x32x512 (ix3 i j l) = o (ix3 0 0 l) := by
  pointwise

end Cert.KernelIdeal.Block
-- ==== Proof.KernelOut.lean ====
/-
  What the kernel's body leaves at an index of a block: one where the lane's noisy logit beats the lanes beside it, each
  with its offset added, and zero elsewhere.
-/
module

public import proofs.«01_k».proof.Proof.KernelRoll

@[expose] public section

noncomputable section

namespace Cert.KernelIdeal.Block

open Cert.KernelIdeal Cert.KernelIdeal.Gen Idealize.ShloMosaic

/-- The lane `l` of the row `v` wins against the lanes beside it under the offsets `o`. -/
def Beats (v : Fin 512 → EReal) (o : Fin 6 → EReal) (l : Fin 512) : Prop :=
  ((((v (turn l 511) + o 0 < v l ∧ v (turn l 510) + o 1 < v l) ∧ v (turn l 509) + o 2 < v l) ∧
    (v (turn l 1) + o 3 ≤ v l ∧ v (turn l 2) + o 4 ≤ v l)) ∧ v (turn l 3) + o 5 ≤ v l)

/-- The conjunction of two bits. -/
theorem and_bit (p q : Bool) : BitVec.ofBool p &&& BitVec.ofBool q = BitVec.ofBool (p && q) := by
  cases p <;> cases q <;> rfl

/-- A bit widened and read as a number. -/
theorem number_bit (p : Bool) : ((((BitVec.ofBool p).setWidth 32).toInt : ℝ) : EReal) = if p then 1 else 0 := by
  cases p <;> simp

/-- The comparisons of the body's last part at an index, from the comparison and the roll handed to it. -/
theorem last_at (v : FVec Ideal S64x32x512 .f32) (v204 : IVec S64x32x512 1) (v207 : FVec Ideal S64x32x512 .f32)
    (o1 o2 o3 o4 o5 : Vec Ideal S1x1x512 .f32) (i : Fin 64) (j : Fin 32) (l : Fin 512) :
    k0_pay48 v v204 v207 o1 o2 o3 o4 o5 (ix3 i j l)
      = (((((((v204 (ix3 i j l) &&& .ofBool (decide ((v207 (ix3 i j l) + o1 (ix3 0 0 l) : EReal) < v (ix3 i j l))))
        &&& .ofBool (decide ((v (ix3 i j (turn l 509)) + o2 (ix3 0 0 l) : EReal) < v (ix3 i j l))))
        &&& (.ofBool (decide ((v (ix3 i j (turn l 1)) + o3 (ix3 0 0 l) : EReal) ≤ v (ix3 i j l)))
          &&& .ofBool (decide ((v (ix3 i j (turn l 2)) + o4 (ix3 0 0 l) : EReal) ≤ v (ix3 i j l)))))
        &&& .ofBool (decide ((v (ix3 i j (turn l 3)) + o5 (ix3 0 0 l) : EReal) ≤ v (ix3 i j l)))).setWidth 32).toInt : ℝ) : EReal) := by
  rw [← back3 v i j l, ← ahead1 v i j l, ← ahead2 v i j l, ← ahead3 v i j l, ← offset_at i j l o1, ← offset_at i j l o2,
    ← offset_at i j l o3, ← offset_at i j l o4, ← offset_at i j l o5]
  rfl

/-- What the body leaves at an index of the block. -/
theorem out_at (x0 : Vec Ideal S64x32x512 .f32) (x1 : Vec Ideal S9x1x512 .i32) (x2 : Vec Ideal S6x1x512 .f32)
    (x3 : Vec Ideal S64x32x1 .i32) (i : Fin 64) (j : Fin 32) (l : Fin 512) :
    out0_4 x0 x1 x2 x3 (ix3 i j l) =
      open Classical in (if Beats (fun k => noisy x0 x1 x2 x3 (ix3 i j k)) (fun k => x2 (ix3 k 0 l)) l then 1 else 0 : EReal) := by
  have e : r0_0.emb (ix3 i j l) = ix3 i j l := by
    funext a; apply Fin.ext; fin_cases a <;> simp
  have h0 : out0_4 x0 x1 x2 x3 (r0_0.emb (ix3 i j l)) = k0_pay48 (noisy x0 x1 x2 x3) _ _ _ _ _ _ _ (ix3 i j l) := View.canon_cons_emb _ _ _ _
  rw [e] at h0
  have h1 : k0_pay46 (k0_pay49 x0 x1 x2 x3) (k0_pay57 x0 x1 x2 x3) (k0_pay58 x0 x1 x2 x3) (k0_pay59 x0 x1 x2 x3)
      (k0_pay60 x0 x1 x2 x3) (View.ld x1 r0_6) (View.ld x1 r0_10) (View.ld x2 r0_11) (ix3 i j l)
      = .ofBool (decide ((noisy x0 x1 x2 x3 (ix3 i j (turn l 511)) + View.ld x2 r0_11 (ix3 0 0 l) : EReal) < noisy x0 x1 x2 x3 (ix3 i j l))) := by
    rw [← back1 (noisy x0 x1 x2 x3) i j l, ← offset_at i j l (View.ld x2 r0_11)]; rfl
  have h2 : k0_pay47 (k0_pay49 x0 x1 x2 x3) (k0_pay57 x0 x1 x2 x3) (k0_pay58 x0 x1 x2 x3) (k0_pay59 x0 x1 x2 x3)
      (k0_pay60 x0 x1 x2 x3) (View.ld x1 r0_6) (View.ld x1 r0_10) (ix3 i j l) = noisy x0 x1 x2 x3 (ix3 i j (turn l 510)) :=
    back2 (noisy x0 x1 x2 x3) i j l
  have q0 : View.ld x2 r0_11 (ix3 0 0 l) = x2 (ix3 0 0 l) := by pointwise
  have q1 : View.ld x2 r0_12 (ix3 0 0 l) = x2 (ix3 1 0 l) := by pointwise
  have q2 : View.ld x2 r0_13 (ix3 0 0 l) = x2 (ix3 2 0 l) := by pointwise
  have q3 : View.ld x2 r0_14 (ix3 0 0 l) = x2 (ix3 3 0 l) := by pointwise
  have q4 : View.ld x2 r0_15 (ix3 0 0 l) = x2 (ix3 4 0 l) := by pointwise
  have q5 : View.ld x2 r0_16 (ix3 0 0 l) = x2 (ix3 5 0 l) := by pointwise
  rw [h0, last_at, h1, h2, q0, q1, q2, q3, q4, q5, and_bit, and_bit, and_bit, and_bit, and_bit, number_bit]
  classical
  refine if_congr ?_ rfl rfl
  simp only [Bool.and_eq_true, decide_eq_true_eq, Beats]

end Cert.KernelIdeal.Block
-- ==== Proof.KernelWins.lean ====
/-
  The kernel's comparisons with the lanes beside a lane decide whether the lane's channel wins in its split: the offsets
  leave out the lanes of other splits, and a split with a possible channel has a winner above minus infinity.
-/
module

public import proofs.«01_k».proof.Proof.KernelOut

@[expose] public section

noncomputable section

namespace Cert.KernelIdeal.Block

open Cert.Spec Idealize.ShloMosaic

/-- The offsets at a lane: zero for a lane beside it in its split, minus infinity for one outside. -/
structure Offsets (o : Fin 6 → EReal) (c : Fin 4) : Prop where
  back1 : o 0 = if 1 ≤ c.val then 0 else ⊥
  back2 : o 1 = if 2 ≤ c.val then 0 else ⊥
  back3 : o 2 = if 3 ≤ c.val then 0 else ⊥
  ahead1 : o 3 = if c.val + 1 ≤ 3 then 0 else ⊥
  ahead2 : o 4 = if c.val + 2 ≤ 3 then 0 else ⊥
  ahead3 : o 5 = if c.val + 3 ≤ 3 then 0 else ⊥

/-- A channel that wins is above minus infinity when some channel is. -/
theorem Wins.possible {f : Fin 4 → EReal} {c : Fin 4} (h : Wins f c) (hp : ∃ d, ⊥ < f d) : ⊥ < f c := by
  obtain ⟨d, hd⟩ := hp
  rcases lt_trichotomy d c with hc | hc | hc
  · exact hd.trans (h.1 d hc)
  · exact hc ▸ hd
  · exact hd.trans_le (h.2 d hc)

section
variable {v : Fin 512 → EReal} {f : Fin 4 → EReal} {l : Fin 512}
  (hv : ∀ k : Fin 512, k.val / 4 = l.val / 4 → v k = f (laneChannel k))
include hv

/-- A strict comparison with a lane before. -/
theorem back_iff (k : ℕ) (hk : k ≤ 3) (hp : ⊥ < f (laneChannel l)) :
    v (turn l (512 - k)) + (if k ≤ (laneChannel l).val then 0 else ⊥) < v l ↔
      ∀ d : Fin 4, d.val + k = (laneChannel l).val → f d < f (laneChannel l) := by
  rw [hv l rfl]
  have hl := l.isLt
  by_cases hc : k ≤ (laneChannel l).val
  · have hc' : k ≤ l.val % 4 := hc
    have ht : (turn l (512 - k)).val = l.val - k := by simp only [turn]; omega
    rw [if_pos hc, add_zero, hv (turn l (512 - k)) (by omega)]
    have hd : (laneChannel (turn l (512 - k))).val + k = (laneChannel l).val := by simp only [laneChannel, ht]; omega
    refine ⟨fun h d e => ?_, fun h => h _ hd⟩
    rwa [show d = laneChannel (turn l (512 - k)) from Fin.ext (by omega)]
  · rw [if_neg hc, EReal.add_bot]
    exact ⟨fun _ d e => absurd e (by omega), fun _ => hp⟩

/-- A comparison with a lane after. -/
theorem ahead_iff (k : ℕ) (hk : k ≤ 3) :
    v (turn l k) + (if (laneChannel l).val + k ≤ 3 then 0 else ⊥) ≤ v l ↔
      ∀ d : Fin 4, (laneChannel l).val + k = d.val → f d ≤ f (laneChannel l) := by
  rw [hv l rfl]
  have hl := l.isLt
  by_cases hc : (laneChannel l).val + k ≤ 3
  · have hc' : l.val % 4 + k ≤ 3 := hc
    have ht : (turn l k).val = l.val + k := by simp only [turn]; omega
    rw [if_pos hc, add_zero, hv (turn l k) (by omega)]
    have hd : (laneChannel l).val + k = (laneChannel (turn l k)).val := by simp only [laneChannel, ht]; omega
    refine ⟨fun h d e => ?_, fun h => h _ hd⟩
    rwa [show d = laneChannel (turn l k) from Fin.ext (by omega)]
  · rw [if_neg hc, EReal.add_bot]
    exact ⟨fun _ d e => absurd e (by omega), fun _ => bot_le⟩

/-- The lane beats the lanes beside it exactly when its channel wins. -/
theorem beats_iff {o : Fin 6 → EReal} (ho : Offsets o (laneChannel l)) (hp : ∃ d, ⊥ < f d) :
    Beats v o l ↔ Wins f (laneChannel l) := by
  by_cases hb : ⊥ < f (laneChannel l)
  · rw [Beats, ho.back1, ho.back2, ho.back3, ho.ahead1, ho.ahead2, ho.ahead3, back_iff hv 1 (by omega) hb,
      back_iff hv 2 (by omega) hb, back_iff hv 3 (by omega) hb, ahead_iff hv 1 (by omega), ahead_iff hv 2 (by omega),
      ahead_iff hv 3 (by omega)]
    constructor
    · rintro ⟨⟨⟨⟨h1, h2⟩, h3⟩, h4, h5⟩, h6⟩
      refine ⟨fun d hd => ?_, fun d hd => ?_⟩
      · have : d.val + 1 = (laneChannel l).val ∨ d.val + 2 = (laneChannel l).val ∨ d.val + 3 = (laneChannel l).val := by omega
        rcases this with e | e | e
        exacts [h1 d e, h2 d e, h3 d e]
      · have : (laneChannel l).val + 1 = d.val ∨ (laneChannel l).val + 2 = d.val ∨ (laneChannel l).val + 3 = d.val := by omega
        rcases this with e | e | e
        exacts [h4 d e, h5 d e, h6 d e]
    · rintro ⟨h, h'⟩
      exact ⟨⟨⟨⟨fun d e => h d (by omega), fun d e => h d (by omega)⟩, fun d e => h d (by omega)⟩,
        fun d e => h' d (by omega), fun d e => h' d (by omega)⟩, fun d e => h' d (by omega)⟩
  · refine iff_of_false (fun h => ?_) (fun h => hb (Wins.possible h hp))
    refine hb ((bot_le.trans_lt h.1.1.1.1).trans_eq (hv l rfl))

end

end Cert.KernelIdeal.Block
-- ==== Proof.KernelTable.lean ====
/-
  The kernel's two tables: each column of the first holds the words of its split's key, and the second's rows say which
  lanes beside a lane are in its split.
-/
module

public import proofs.«01_k».proof.Proof.KernelWins

@[expose] public section

noncomputable section

namespace Cert.KernelIdeal.Block

open Cert.KernelIdeal Cert.Cipher Cert.Spec Idealize.ShloMosaic

/-- Row `k` of the first table at a lane. -/
def entry0 (k : Fin 9) (l : Fin 512) : BitVec 32 := lit0 ⟨k.val * 512 + l.val, by omega⟩

/-- Row `k` of the second table at a lane. -/
def entry1 (k : Fin 6) (l : Fin 512) : BitVec 32 := lit1 ⟨k.val * 512 + l.val, by omega⟩

/-- The number of a lane's site and channel among those of its row. -/
def base (l : Fin 512) : BitVec 32 := BitVec.ofNat 32 (l.val / 16 * 4 + l.val % 4)

/-- The first table's first three rows. -/
theorem table_key : ∀ l : Fin 512, entry0 0 l = (key (laneSplit l)).1 ∧ entry0 1 l = (key (laneSplit l)).2 ∧
    entry0 2 l = thirdWord (entry0 0 l) (entry0 1 l) := by
  decide +kernel

/-- The first table's other rows. -/
theorem table_sums : ∀ l : Fin 512, entry0 3 l = base l + entry0 1 l ∧ entry0 4 l = entry0 2 l + 1 ∧
    entry0 5 l = entry0 0 l + 2 ∧ entry0 6 l = entry0 1 l + 3 ∧ entry0 7 l = entry0 2 l + 4 ∧
    entry0 8 l = entry0 0 l + 5 := by
  decide +kernel

/-- The second table: the word of zero for a lane in the split, that of minus infinity for one outside. -/
theorem table_offsets : ∀ l : Fin 512,
    entry1 0 l = (if 1 ≤ (laneChannel l).val then 0#32 else 0xFF800000#32) ∧
    entry1 1 l = (if 2 ≤ (laneChannel l).val then 0#32 else 0xFF800000#32) ∧
    entry1 2 l = (if 3 ≤ (laneChannel l).val then 0#32 else 0xFF800000#32) ∧
    entry1 3 l = (if (laneChannel l).val + 1 ≤ 3 then 0#32 else 0xFF800000#32) ∧
    entry1 4 l = (if (laneChannel l).val + 2 ≤ 3 then 0#32 else 0xFF800000#32) ∧
    entry1 5 l = (if (laneChannel l).val + 3 ≤ 3 then 0#32 else 0xFF800000#32) := by
  decide +kernel

end Cert.KernelIdeal.Block
-- ==== Proof.KernelEntry.lean ====
/-
  What the kernel's four operands hold when it is launched, at an index: the logits, the two tables and the first counter
  of each row.
-/
module

public import proofs.«01_k».proof.Proof.KernelTable
public import Idealize.ShloMosaic.Lib.Claim

@[expose] public section

noncomputable section

namespace Cert.KernelIdeal.Block

open Cert.KernelIdeal Cert.KernelIdeal.Gen Cert.Cipher Cert.Spec Idealize.ShloMosaic Idealize.ShloMosaic.TcCoe

variable (m : (ℓ : Loc nD τ sig) → Buf (Elt Ideal) ℓ) (c : Dev nD)

/-- The row-major number of a matrix's entry. -/
theorem rowMajor_row {r : ℕ} (k : Fin r) (l : Fin 512) :
    ((⟨2, ![r, 512]⟩ : Shape).rowMajor (ix2 k l)).val = k.val * 512 + l.val := by
  rw [Shape.rowMajor_val_two]; rfl

/-- The first table. -/
theorem entry_table (k : Fin 9) (l : Fin 512) :
    (V m c main_v0 : (⟨S9x1x512, .i32⟩ : BufTy).Contents (Elt Ideal)) (ix3 k 0 l) = entry0 k l := by
  entry_read
  pointwise
  rw [entry0, show S9x512.rowMajor (ix2 k l) = (⟨k.val * 512 + l.val, by omega⟩ : Fin 4608) from Fin.ext (rowMajor_row k l)]

/-- The second table. -/
theorem entry_offsets (k : Fin 6) (l : Fin 512) :
    (V m c main_v1 : (⟨S6x1x512, .f32⟩ : BufTy).Contents (Elt Ideal)) (ix3 k 0 l) = Ideal.ofBits .f32 (entry1 k l) := by
  entry_read
  pointwise
  rw [entry1, show S6x512.rowMajor (ix2 k l) = (⟨k.val * 512 + l.val, by omega⟩ : Fin 3072) from Fin.ext (rowMajor_row k l)]

/-- The logits of a row, the columns and channels in one axis. -/
theorem entry_logits (b : Fin 1024) (h : Fin 32) (l : Fin 512) :
    (V m c main_v2 : (⟨S1024x32x512, .f32⟩ : BufTy).Contents (Elt Ideal)) (ix3 b h l) =
      (m ((c : Thread nD τ).loc main_arg0) : (⟨S1024x32x32x16, .f32⟩ : BufTy).Contents (Elt Ideal))
        (ix4 b h (laneSite l) ⟨l.val % 16, by omega⟩) := by
  entry_read
  pointwise
  rfl

/-- The first counter of a row. -/
theorem entry_counter (b : Fin 1024) (h : Fin 32) :
    (V m c main_v6 : (⟨S1024x32x1, .i32⟩ : BufTy).Contents (Elt Ideal)) (ix3 b h 0)
      = BitVec.ofNat 32 ((b.val * 32 + h.val) * 128) := by
  entry_read
  pointwise
  exact (BitVec.ofNat_mul ..).symm

end Cert.KernelIdeal.Block
-- ==== Proof.KernelBlocks.lean ====
/-
  The blocks the kernel's operands are read by, at an index: block `t` of the logits, of the counters and of the result
  holds rows `64 t` to `64 t + 63`, and the tables are read whole.
-/
module

public import proofs.«01_k».proof.Proof.KernelEntry
public import proofs.«01_k».proof.Proof.Gen.KernelIdeal.Value
public import Idealize.ShloMosaic.Lib.Pipeline.ValueKit

@[expose] public section

noncomputable section

namespace Cert.KernelIdeal.Block

open Cert.KernelIdeal Cert.KernelIdeal.Gen Cert.Cipher Cert.Spec Idealize.ShloMosaic Idealize.ShloMosaic.TcCoe

variable (m : (ℓ : Loc nD τ sig) → Buf (Elt Ideal) ℓ) (c : Dev nD)

/-- The row of the whole batch that is row `i` of block `t`. -/
def blockRow (t : Fin cfg0.N) (i : Fin 64) : Fin 1024 := ⟨t.val * 64 + i.val, by have : t.val < 16 := t.isLt; omega⟩

/-- The windows' index maps at a point of the grid. -/
theorem index_facts : ∀ t : Fin grid0.N,
    (win0_0.index t 0 = t.val ∧ win0_0.index t 1 = 0 ∧ win0_0.index t 2 = 0) ∧
    (win0_1.index t 0 = 0 ∧ win0_1.index t 1 = 0 ∧ win0_1.index t 2 = 0) ∧
    (win0_2.index t 0 = 0 ∧ win0_2.index t 1 = 0 ∧ win0_2.index t 2 = 0) ∧
    (win0_3.index t 0 = t.val ∧ win0_3.index t 1 = 0 ∧ win0_3.index t 2 = 0) ∧
    (win0_4.index t 0 = t.val ∧ win0_4.index t 1 = 0 ∧ win0_4.index t 2 = 0) := by
  decide +kernel

/-- Block `t` of the logits holds the rows from `64 t`. -/
theorem block_logits (t : Fin cfg0.N) (i : Fin 64) (j : Fin 32) (l : Fin 512) :
    (iblk m c 0 t : Vec Ideal S64x32x512 .f32) (ix3 i j l)
      = (V m c main_v2 : (⟨S1024x32x512, .f32⟩ : BufTy).Contents (Elt Ideal)) (ix3 (blockRow t i) j l) := by
  obtain ⟨⟨e0, e1, e2⟩, -⟩ := index_facts t
  blk_ext [iblk, e0, e1, e2, blockRow]

/-- Every block of the first table is the table. -/
theorem block_table (t : Fin cfg0.N) (k : Fin 9) (l : Fin 512) :
    (iblk m c 1 t : Vec Ideal S9x1x512 .i32) (ix3 k 0 l)
      = (V m c main_v0 : (⟨S9x1x512, .i32⟩ : BufTy).Contents (Elt Ideal)) (ix3 k 0 l) := by
  obtain ⟨-, ⟨e0, e1, e2⟩, -⟩ := index_facts t
  blk_ext [iblk, e0, e1, e2]

/-- Every block of the second table is the table. -/
theorem block_offsets (t : Fin cfg0.N) (k : Fin 6) (l : Fin 512) :
    (iblk m c 2 t : Vec Ideal S6x1x512 .f32) (ix3 k 0 l)
      = (V m c main_v1 : (⟨S6x1x512, .f32⟩ : BufTy).Contents (Elt Ideal)) (ix3 k 0 l) := by
  obtain ⟨-, -, ⟨e0, e1, e2⟩, -⟩ := index_facts t
  blk_ext [iblk, e0, e1, e2]

/-- Block `t` of the first counters holds the rows from `64 t`. -/
theorem block_counter (t : Fin cfg0.N) (i : Fin 64) (j : Fin 32) :
    (iblk m c 3 t : Vec Ideal S64x32x1 .i32) (ix3 i j 0)
      = (V m c main_v6 : (⟨S1024x32x1, .i32⟩ : BufTy).Contents (Elt Ideal)) (ix3 (blockRow t i) j 0) := by
  obtain ⟨-, -, -, ⟨e0, e1, e2⟩, -⟩ := index_facts t
  blk_ext [iblk, e0, e1, e2, blockRow]

end Cert.KernelIdeal.Block
-- ==== Proof.KernelValue.lean ====
/-
  The kernel's result: the indicator of the drawn channels, provided each split of each site has a channel whose logit is
  above minus infinity.
-/
module

public import proofs.«01_k».proof.Proof.KernelBlocks

@[expose] public section

noncomputable section

namespace Cert.KernelIdeal.Block

open Cert.KernelIdeal Cert.KernelIdeal.Gen Cert.Cipher Cert.Noise Cert.Spec Idealize.ShloMosaic Idealize.ShloMosaic.TcCoe

variable (m : (ℓ : Loc nD τ sig) → Buf (Elt Ideal) ℓ) (c : Dev nD)

/-- The logits a core is launched with. -/
abbrev input : (⟨4, ![1024, 32, 32, 16]⟩ : Shape).Idx → EReal := m ((c : Thread nD τ).loc main_arg0)

/-- Each split of each site has a channel above minus infinity. -/
def Possible (x : (⟨4, ![1024, 32, 32, 16]⟩ : Shape).Idx → EReal) : Prop :=
  ∀ (s : Fin 4) (b : Fin 1024) (h w : Fin 32), ∃ d : Fin 4, ⊥ < x (ix4 b h w (channel s d))

/-- Then a split's noisy logits have one above minus infinity, the noise being a real number. -/
theorem score_possible {x : (⟨4, ![1024, 32, 32, 16]⟩ : Shape).Idx → EReal} (hx : Possible x) (s : Fin 4) (b : Fin 1024)
    (h w : Fin 32) : ∃ d : Fin 4, ⊥ < score x s b h w d := by
  obtain ⟨d, hd⟩ := hx s b h w
  obtain ⟨r, hr⟩ := noise_real (word (key s).1 (key s).2 0 (counter b h w d))
  refine ⟨d, ?_⟩
  rw [score, draw, hr]
  exact EReal.bot_lt_add_iff.2 ⟨hd, EReal.bot_lt_coe r⟩

/-- The table's column at a lane. -/
theorem column (t : Fin cfg0.N) (l : Fin 512) :
    Column (iblk m c 1 t) l (key (laneSplit l)).1 (key (laneSplit l)).2 (base l) := by
  obtain ⟨h0, h1, h2⟩ := table_key l
  obtain ⟨h3, h4, h5, h6, h7, h8⟩ := table_sums l
  rw [h0, h1] at h2
  rw [h1] at h3 h6
  rw [h2] at h4 h7
  rw [h0] at h5 h8
  have e (k : Fin 9) := (block_table m c t k l).trans (entry_table m c k l)
  exact ⟨(e 0).trans h0, (e 1).trans h1, (e 2).trans h2, (e 3).trans h3, (e 4).trans h4, (e 5).trans h5, (e 6).trans h6,
    (e 7).trans h7, (e 8).trans h8⟩

/-- The offsets at a lane. -/
theorem offsets (t : Fin cfg0.N) (l : Fin 512) :
    Offsets (fun k => (iblk m c 2 t : Vec Ideal S6x1x512 .f32) (ix3 k 0 l)) (laneChannel l) := by
  obtain ⟨h0, h1, h2, h3, h4, h5⟩ := table_offsets l
  have w {p : Prop} [Decidable p] {b : BitVec 32} (h : b = if p then 0#32 else 0xFF800000#32) :
      Ideal.ofBits .f32 b = if p then (0 : EReal) else ⊥ := by
    rw [h]; split
    · exact Ideal.ofBits_zero_f32
    · exact negInf_eq
  have e (k : Fin 6) := (block_offsets m c t k l).trans (entry_offsets m c k l)
  exact ⟨(e 0).trans (w h0), (e 1).trans (w h1), (e 2).trans (w h2), (e 3).trans (w h3), (e 4).trans (w h4),
    (e 5).trans (w h5)⟩

/-- The noisy logit at a lane is its channel's in its split. -/
theorem noisy_score (t : Fin cfg0.N) (i : Fin 64) (j : Fin 32) (l : Fin 512) :
    noisy (iblk m c 0 t) (iblk m c 1 t) (iblk m c 2 t) (iblk m c 3 t) (ix3 i j l)
      = score (input m c) (laneSplit l) (blockRow t i) j (laneSite l) (laneChannel l) := by
  have hc : channel (laneSplit l) (laneChannel l) = ⟨l.val % 16, by omega⟩ :=
    Fin.ext (by simp only [channel, laneSplit, laneChannel]; omega)
  have hn : BitVec.ofNat 32 (((blockRow t i).val * 32 + j.val) * 128) + base l
      = counter (blockRow t i) j (laneSite l) (laneChannel l) := by
    rw [base, ← BitVec.ofNat_add, counter]
    refine congrArg (BitVec.ofNat 32) ?_
    simp only [laneSite, laneChannel]; omega
  rw [noisy_at _ _ _ _ i j l (column m c t l), block_logits, entry_logits, block_counter, entry_counter, hn, score, draw, hc]

/-- What a block's body leaves at an index. -/
theorem block_value (hx : Possible (input m c)) (t : Fin cfg0.N) (i : Fin 64) (j : Fin 32) (l : Fin 512) :
    out0_4 (iblk m c 0 t) (iblk m c 1 t) (iblk m c 2 t) (iblk m c 3 t) (ix3 i j l)
      = result (input m c) (blockRow t i) j l := by
  have hv (k : Fin 512) (hk : k.val / 4 = l.val / 4) :
      noisy (iblk m c 0 t) (iblk m c 1 t) (iblk m c 2 t) (iblk m c 3 t) (ix3 i j k)
        = score (input m c) (laneSplit l) (blockRow t i) j (laneSite l) (laneChannel k) := by
    rw [noisy_score, show laneSplit k = laneSplit l from Fin.ext (by simp only [laneSplit]; omega),
      show laneSite k = laneSite l from Fin.ext (by simp only [laneSite]; omega)]
  rw [out_at, result, chosen]
  classical
  exact if_congr (beats_iff (v := fun k => noisy (iblk m c 0 t) (iblk m c 1 t) (iblk m c 2 t) (iblk m c 3 t) (ix3 i j k))
    (f := score (input m c) (laneSplit l) (blockRow t i) j (laneSite l)) hv (offsets m c t l)
    (score_possible hx _ _ _ _)) rfl rfl

/-- The kernel's whole result. -/
theorem final_value (hx : Possible (input m c)) :
    (dats m 0 c).arrAt 4 cfg0.N = (fun i => result (input m c) (i 0) (i 1) (i 2) : S1024x32x512.Idx → EReal) := by
  refine (dats m 0 c).arrAt_eq_of_covers 4 _ (by decide +kernel) fun t hf y => ?_
  blk_simp
  rw [after0_4]
  idx_vars y
  obtain ⟨-, -, -, -, e0, e1, e2⟩ := index_facts t
  have e : ((View.whole main_v7).slice (win0_4.rect t)).emb (ix3 y0 y1 y2) = ix3 (blockRow t y0) y1 y2 := by
    blk_ext [e0, e1, e2, blockRow]
  rw [e]
  exact block_value m c hx t y0 y1 y2

end Cert.KernelIdeal.Block
-- ==== Proof.Line.lean ====
/-
  A straight line of host operations, read as a system of equations.

  A host-only program names one buffer per value and writes each exactly once, the buffers numbered in the order of the
  program. So the contents at the end satisfy one equation per operation, all of them about the SAME contents: the value
  at the operation's result is the operation's function of the values at its operands. `Line p n m T` says that the
  program `p` is such a line, writing the buffers `n`, …, `m - 1`, and that `T` is the conjunction of its equations;
  a `Line` is built one operation at a time, and two of them in a row are one.
-/
module

public import Idealize.ShloMosaic.Lib.StableHlo.RunHlo

@[expose] public section

noncomputable section

namespace Cert.Equations

open Idealize.ShloMosaic Idealize.ShloMosaic.StableHlo Idealize.SL.Sem

variable {nD : Nat} {τ : Topo} {sig : RefSig} {Val : EltTy → Type} {Λ : Labels}

/-- The value that the contents `A` give the typed reference `x`. -/
def val (A : Valuation τ sig Val) {T : BufTy} (x : TRef sig T) : T.Contents Val :=
  x.ofBuf (A (Proc.devRef .tc x.ref))

/-- What one operation of such a line does, `n` the number of the buffer it writes: it touches buffers numbered at most
    `n`, writes only the buffer `n`, and doing it twice is doing it once (it does not read what it writes). -/
structure OpAt (n : ℕ) (op : HloOp τ sig Val) : Prop where
  bufs : ∀ b ∈ op.bufs, ∃ r : Ref sig .tc, b = Proc.devRef .tc r ∧ r.idx.val ≤ n
  writes : ∀ b ∈ op.writes, ∃ r : Ref sig .tc, b = Proc.devRef .tc r ∧ r.idx.val = n
  twice : ∀ F : Valuation τ sig Val, op.result (op.result F) = op.result F
  fresh : op.fresh = ∅

/-- The operations `ops` write the buffers `n`, …, `m - 1` in order. -/
def Ordered : ℕ → List (HloOp τ sig Val) → ℕ → Prop
  | n, [], m => n = m
  | n, op :: ops, m => OpAt n op ∧ Ordered (n + 1) ops m

/-- Two ordered lists of operations, the second starting where the first ends, are one. -/
theorem Ordered.append {k m : ℕ} {l' : List (HloOp τ sig Val)} (h' : Ordered k l' m) :
    ∀ {l : List (HloOp τ sig Val)} {n : ℕ}, Ordered n l k → Ordered n (l ++ l') m
  | [], n, h => by obtain rfl : n = k := h; exact h'
  | op :: l, n, h => ⟨h.1, Ordered.append h' h.2⟩

/-- An ordered list of operations leaves every buffer numbered below its first as it was. -/
theorem Ordered.after_of_lt {m : ℕ} : ∀ {l : List (HloOp τ sig Val)} {n : ℕ} (_ : Ordered n l m) (V : Valuation τ sig Val)
    (r : Ref sig .tc) (_ : r.idx.val < n), after l V (Proc.devRef .tc r) = V (Proc.devRef .tc r)
  | [], _, _, _, _, _ => rfl
  | op :: l, n, h, V, r, hr => by
    rw [after_cons, Ordered.after_of_lt h.2 _ r (by omega)]
    refine op.result_of_not_mem V fun hw => ?_
    obtain ⟨r', e, hn⟩ := h.1.writes _ hw
    rw [Proc.devRef_injective _ e] at hr
    omega

/-- The contents after an ordered list of operations are unchanged by doing any of its operations once more. -/
theorem Ordered.fixed {m : ℕ} : ∀ {l : List (HloOp τ sig Val)} {n : ℕ} (_ : Ordered n l m) (V : Valuation τ sig Val),
    ∀ op ∈ l, op.result (after l V) = after l V
  | [], _, _, _, _, h => by simp at h
  | op :: l, n, h, V, o, ho => by
    rcases List.mem_cons.mp ho with rfl | ho
    · rw [after_cons]
      have agree : ∀ b ∈ o.bufs, after l (o.result V) b = o.result V b := fun b hb => by
        obtain ⟨r, rfl, hr⟩ := h.1.bufs b hb
        exact h.2.after_of_lt _ r (by omega)
      funext b
      by_cases hb : b ∈ o.writes
      · rw [o.result_congr agree b (o.writes_sub hb), h.1.twice, agree b (o.writes_sub hb)]
      · exact o.result_of_not_mem _ hb
    · exact h.2.fixed _ o ho

/-- Every buffer an ordered list of operations touches is the TensorCore's. -/
theorem Ordered.bufs_sub {m : ℕ} : ∀ {l : List (HloOp τ sig Val)} {n : ℕ} (_ : Ordered n l m),
    l.Forall fun op => op.bufs ⊆ tcRefs τ sig
  | [], _, _ => trivial
  | op :: l, n, h => (List.forall_cons _ _ _).mpr ⟨fun b hb => by
      obtain ⟨r, rfl, -⟩ := h.1.bufs b hb
      exact devRef_mem_tcRefs r, h.2.bufs_sub⟩

/-- Every operation of an ordered list determines its result. -/
theorem Ordered.fresh {m : ℕ} : ∀ {l : List (HloOp τ sig Val)} {n : ℕ} (_ : Ordered n l m), ∀ op ∈ l, op.fresh = ∅
  | [], _, _, _, h => by simp at h
  | op :: l, n, h, o, ho => by
    rcases List.mem_cons.mp ho with rfl | ho
    exacts [h.1.fresh, h.2.fresh o ho]

/-- The program `p` is a straight line of operations that write the buffers `n`, …, `m - 1` in order, and contents that
    none of them changes satisfy its equations: `T R A` is their conjunction, ended by `R A`. -/
def Line (p : Prog (TpuEff nD τ sig Val Λ .tc) PUnit) (n m : ℕ)
    (T : (Valuation τ sig Val → Prop) → Valuation τ sig Val → Prop) : Prop :=
  ∃ ops, p = seq ops ∧ Ordered n ops m ∧
    ∀ (R : Valuation τ sig Val → Prop) (A : Valuation τ sig Val), (∀ op ∈ ops, op.result A = A) → R A → T R A

variable {T T' : (Valuation τ sig Val → Prop) → Valuation τ sig Val → Prop}
  {p q k : Prog (TpuEff nD τ sig Val Λ .tc) PUnit} {n m l : ℕ}

/-- The empty program is a line with no equations. -/
theorem Line.nil (n : ℕ) : Line (pure ⟨⟩ : Prog (TpuEff nD τ sig Val Λ .tc) PUnit) n n fun R A => R A :=
  ⟨[], rfl, rfl, fun _ _ _ h => h⟩

/-- Two lines in a row. -/
theorem Line.append (h : Line p n l T) (h' : Line q l m T') : Line (p >>= fun _ => q) n m fun R => T (T' R) := by
  obtain ⟨ops, e, o, t⟩ := h
  obtain ⟨ops', e', o', t'⟩ := h'
  refine ⟨ops ++ ops', by rw [e, e', seq_append], o'.append o, fun R A hA hR => t _ A ?_ (t' R A ?_ hR)⟩
  exacts [fun op ho => hA op (List.mem_append_left _ ho), fun op ho => hA op (List.mem_append_right _ ho)]

/-- One operation before a line, with an equation that holds of every contents the operation leaves alone. -/
theorem Line.cons {op : HloOp τ sig Val} {E : Valuation τ sig Val → Prop} (ho : OpAt n op ∧ ∀ A : Valuation τ sig Val, op.result A = A → E A)
    (h : Line k (n + 1) m T) :
    Line ((hlo rfl op fun _ => .ret (⟨⟩ : PUnit)) >>= fun _ => k) n m fun R A => E A ∧ T R A := by
  obtain ⟨ops, e, o, t⟩ := h
  refine ⟨op :: ops, by rw [e]; rfl, ⟨ho.1, o⟩, fun R A hA hR => ⟨ho.2 A (hA op (List.mem_cons_self ..)), t R A ?_ hR⟩⟩
  exact fun op ho => hA op (List.mem_cons_of_mem _ ho)

/-- One operation as a whole line. -/
theorem Line.last {op : HloOp τ sig Val} {E : Valuation τ sig Val → Prop}
    (ho : OpAt n op ∧ ∀ A : Valuation τ sig Val, op.result A = A → E A) :
    Line (nD := nD) (Λ := Λ) (hlo rfl op fun _ => .ret (⟨⟩ : PUnit)) n (n + 1) fun R A => E A ∧ R A :=
  Line.cons (k := pure ⟨⟩) ho (Line.nil (n + 1))

section Builders

variable {Ta Tb Tc Te Ty : BufTy}

/-- Buffers on two sides of a number differ. -/
private theorem ne_of_lt {n : ℕ} {x y : Ref sig .tc} (hx : x.idx.val < n) (hy : y.idx.val = n) : x ≠ y := by
  rintro rfl; omega

/-- An operation that writes `y` only, leaving what it gives there as a function of contents it does not change,
    satisfies `OpAt`. -/
private theorem opAt_of {n : ℕ} {op : HloOp τ sig Val} {y : Ref sig .tc} (hy : y.idx.val = n)
    (hw : op.writes = {Proc.devRef .tc y}) (hf : op.fresh = ∅)
    (hb : ∀ b ∈ op.bufs, b = Proc.devRef .tc y ∨ ∃ r : Ref sig .tc, b = Proc.devRef .tc r ∧ r.idx.val < n)
    (h2 : ∀ F : Valuation τ sig Val, op.result (op.result F) (Proc.devRef .tc y) = op.result F (Proc.devRef .tc y)) :
    OpAt n op where
  bufs b h := by
    rcases hb b h with rfl | ⟨r, rfl, hr⟩
    exacts [⟨y, rfl, hy.le⟩, ⟨r, rfl, hr.le⟩]
  writes b h := by
    rw [hw, Finset.mem_singleton] at h
    exact ⟨y, h, hy⟩
  twice F := by
    funext b
    by_cases h : b ∈ op.writes
    · rw [hw, Finset.mem_singleton] at h
      subst h
      exact h2 F
    · exact op.result_of_not_mem _ h
  fresh := hf

/-- An operation without operands, as a line: its result's equation. -/
theorem Line.nullary {y : TRef sig Ty} {v : Ty.Contents Val} (hy : y.ref.idx.val = n) :
    OpAt (τ := τ) n (TRef.nullary y v) ∧
    ∀ A : Valuation τ sig Val, (TRef.nullary y v).result A = A → val A y = v := by
  refine ⟨opAt_of hy rfl rfl (fun b hb => ?_) fun F => ?_, fun A h => ?_⟩
  · rw [nullary_bufs, Finset.mem_singleton] at hb
    exact .inl hb
  · rw [nullary_result, nullary_result]
  · rw [val, ← h, nullary_result, TRef.ofBuf_toBuf]

/-- An operation of one operand, as a line: its result's equation. -/
theorem Line.unary {x : TRef sig Ta} {y : TRef sig Ty} {f : Ta.Contents Val → Ty.Contents Val}
    (hx : x.ref.idx.val < n) (hy : y.ref.idx.val = n) :
    OpAt (τ := τ) n (TRef.unary x y f) ∧
    ∀ A : Valuation τ sig Val, (TRef.unary x y f).result A = A → val A y = f (val A x) := by
  refine ⟨opAt_of hy rfl rfl (fun b hb => ?_) fun F => ?_, fun A h => ?_⟩
  · simp only [unary_bufs, Finset.mem_insert, Finset.mem_singleton] at hb
    rcases hb with rfl | rfl
    exacts [.inr ⟨_, rfl, hx⟩, .inl rfl]
  · rw [unary_result, unary_result, unary_result_ne _ _ _ _ _ _ (ne_of_lt hx hy)]
  · rw [val, ← h, unary_result, TRef.ofBuf_toBuf, val, h]

/-- An operation of two operands, as a line: its result's equation. -/
theorem Line.binary {a : TRef sig Ta} {b : TRef sig Tb} {y : TRef sig Ty}
    {f : Ta.Contents Val → Tb.Contents Val → Ty.Contents Val}
    (ha : a.ref.idx.val < n) (hb : b.ref.idx.val < n) (hy : y.ref.idx.val = n) :
    OpAt (τ := τ) n (TRef.binary a b y f) ∧
    ∀ A : Valuation τ sig Val, (TRef.binary a b y f).result A = A → val A y = f (val A a) (val A b) := by
  refine ⟨opAt_of hy rfl rfl (fun d hd => ?_) fun F => ?_, fun A h => ?_⟩
  · simp only [binary_bufs, Finset.mem_insert, Finset.mem_singleton] at hd
    rcases hd with rfl | rfl | rfl
    exacts [.inr ⟨_, rfl, ha⟩, .inr ⟨_, rfl, hb⟩, .inl rfl]
  · rw [binary_result, binary_result, binary_result_ne _ _ _ _ _ _ _ _ (ne_of_lt ha hy),
      binary_result_ne _ _ _ _ _ _ _ _ (ne_of_lt hb hy)]
  · rw [val, ← h, binary_result, TRef.ofBuf_toBuf, val, val, h]

/-- An operation of four operands, as a line: its result's equation. -/
theorem Line.quaternary {a : TRef sig Ta} {b : TRef sig Tb} {c : TRef sig Tc} {e : TRef sig Te} {y : TRef sig Ty}
    {f : Ta.Contents Val → Tb.Contents Val → Tc.Contents Val → Te.Contents Val → Ty.Contents Val}
    (ha : a.ref.idx.val < n) (hb : b.ref.idx.val < n) (hc : c.ref.idx.val < n) (he : e.ref.idx.val < n)
    (hy : y.ref.idx.val = n) :
    OpAt (τ := τ) n (TRef.quaternary a b c e y f) ∧
    ∀ A : Valuation τ sig Val, (TRef.quaternary a b c e y f).result A = A →
      val A y = f (val A a) (val A b) (val A c) (val A e) := by
  refine ⟨opAt_of hy rfl rfl (fun d hd => ?_) fun F => ?_, fun A h => ?_⟩
  · simp only [quaternary_bufs, Finset.mem_insert, Finset.mem_singleton] at hd
    rcases hd with rfl | rfl | rfl | rfl | rfl
    exacts [.inr ⟨_, rfl, ha⟩, .inr ⟨_, rfl, hb⟩, .inr ⟨_, rfl, hc⟩, .inr ⟨_, rfl, he⟩, .inl rfl]
  · rw [quaternary_result, quaternary_result, quaternary_result_ne (h := ne_of_lt ha hy),
      quaternary_result_ne (h := ne_of_lt hb hy), quaternary_result_ne (h := ne_of_lt hc hy),
      quaternary_result_ne (h := ne_of_lt he hy)]
  · rw [val, ← h, quaternary_result, TRef.ofBuf_toBuf, val, val, val, val, h]

/-- An operation of a family of operands, as a line: its result's equation. -/
theorem Line.nary {j : ℕ} {xs : Fin j → Ref sig .tc} {y : Ref sig .tc}
    {f : ((i : Fin j) → (xs i).ty.Contents Val) → y.ty.Contents Val} {hxs hd}
    (hx : ∀ i, (xs i).idx.val < n) (hy : y.idx.val = n) :
    OpAt (τ := τ) n (StableHlo.nary xs y f hxs hd) ∧
    ∀ A : Valuation τ sig Val, (StableHlo.nary xs y f hxs hd).result A = A →
      A (Proc.devRef .tc y) = f fun i => A (Proc.devRef .tc (xs i)) := by
  refine ⟨opAt_of hy rfl rfl (fun d hd => ?_) fun F => ?_, fun A h => ?_⟩
  · rcases Finset.mem_insert.mp hd with rfl | hd
    · exact .inl rfl
    · obtain ⟨i, -, rfl⟩ := Finset.mem_image.mp hd
      exact .inr ⟨_, rfl, hx i⟩
  · rw [nary_result, nary_result]
    exact congrArg f (funext fun i => nary_result_ne _ _ _ _ _ _ (ne_of_lt (hx i) hy))
  · conv_lhs => rw [← h, nary_result]

/-- A reshape, as a line: its result's equation. -/
theorem Line.reshape {x : TRef sig Ta} {y : TRef sig Ty} {he : Ta.elt = Ty.elt} {hn : Ta.shape.ShapeCasts Ty.shape}
    (hx : x.ref.idx.val < n) (hy : y.ref.idx.val = n) :
    OpAt (τ := τ) (Val := Val) n (TRef.reshape x y he hn) ∧
    ∀ A : Valuation τ sig Val, (TRef.reshape x y he hn).result A = A →
      val A y = fun i => he ▸ shapeCast Ty.shape (val A x) hn i := by
  obtain ⟨x, rfl, hx1, hx2⟩ := x
  obtain ⟨y, rfl, hy1, hy2⟩ := y
  refine ⟨opAt_of hy rfl rfl (fun b hb => ?_) fun F => ?_, fun A h => ?_⟩
  · simp only [reshape_bufs, Finset.mem_insert, Finset.mem_singleton] at hb
    rcases hb with rfl | rfl
    exacts [.inr ⟨_, rfl, hx⟩, .inl rfl]
  · rw [reshape_result, reshape_result, reshape_result_ne (h := ne_of_lt hx hy)]
  · show A (Proc.devRef .tc y) = _
    conv_lhs => rw [← h, reshape_result]
    rfl

/-! The same builders over plain references, as `main`'s own lines have them. -/

/-- `Line.nullary` for a result given by its buffer. -/
theorem Line.nullary' {y : Ref sig .tc} {v : y.ty.Contents Val} {hd} (hy : y.idx.val = n) :
    OpAt (τ := τ) n (StableHlo.nullary y v hd) ∧
    ∀ A : Valuation τ sig Val, (StableHlo.nullary y v hd).result A = A → val A (.of y rfl hd.1 hd.2) = v :=
  Line.nullary (y := .of y rfl hd.1 hd.2) hy

/-- `Line.unary` for buffers given without their types. -/
theorem Line.unary' {x y : Ref sig .tc} {f : x.ty.Contents Val → y.ty.Contents Val} {hd hd'}
    (hx : x.idx.val < n) (hy : y.idx.val = n) :
    OpAt (τ := τ) n (StableHlo.unary x y f hd hd') ∧
    ∀ A : Valuation τ sig Val, (StableHlo.unary x y f hd hd').result A = A →
      val A (.of y rfl hd'.1 hd'.2) = f (val A (.of x rfl hd.1 hd.2)) :=
  Line.unary (x := .of x rfl hd.1 hd.2) (y := .of y rfl hd'.1 hd'.2) hx hy

/-- `Line.binary` for buffers given without their types. -/
theorem Line.binary' {a b y : Ref sig .tc} {f : a.ty.Contents Val → b.ty.Contents Val → y.ty.Contents Val} {hda hdb hd}
    (ha : a.idx.val < n) (hb : b.idx.val < n) (hy : y.idx.val = n) :
    OpAt (τ := τ) n (StableHlo.binary a b y f hda hdb hd) ∧
    ∀ A : Valuation τ sig Val, (StableHlo.binary a b y f hda hdb hd).result A = A →
      val A (.of y rfl hd.1 hd.2) = f (val A (.of a rfl hda.1 hda.2)) (val A (.of b rfl hdb.1 hdb.2)) :=
  Line.binary (a := .of a rfl hda.1 hda.2) (b := .of b rfl hdb.1 hdb.2) (y := .of y rfl hd.1 hd.2) ha hb hy

/-- `Line.reshape` for buffers given without their types. -/
theorem Line.reshape' {x y : Ref sig .tc} {he : x.ty.elt = y.ty.elt} {hn : x.ty.shape.ShapeCasts y.ty.shape} {hd hd'}
    (hx : x.idx.val < n) (hy : y.idx.val = n) :
    OpAt (τ := τ) (Val := Val) n (StableHlo.reshape x y he hn hd hd') ∧
    ∀ A : Valuation τ sig Val, (StableHlo.reshape x y he hn hd hd').result A = A →
      val A (.of y rfl hd'.1 hd'.2) = fun i => he ▸ shapeCast y.ty.shape (val A (.of x rfl hd.1 hd.2)) hn i :=
  Line.reshape (x := .of x rfl hd.1 hd.2) (y := .of y rfl hd'.1 hd'.2) (he := he) (hn := hn) hx hy

end Builders

/-- A program whose `main` is one line from buffer `n` runs from any memory; at the end, on every device, its buffers'
    contents satisfy the line's equations, and every buffer numbered below `n` is as launched. -/
theorem Line.run (defs : Defs nD τ sig Val Λ) {main : Dev nD → Prog (TpuEff nD τ sig Val Λ .tc) PUnit}
    (h : ∀ d, Line (main d) n m T)
    (hR : (Finset.univ.filter fun b : Ref sig .tc => b.isScoped) = ∅)
    (hC : (Finset.univ.filter fun sm : SemLoc sig => sm.isScoped .tc) = ∅)
    (μ : (ℓ : Loc nD τ sig) → Buf Val ℓ) (ρ : Dev nD → PrngReg) :
    θ_run defs (onTc (τ := τ) main) ⟨μ, fun _ => 0, ρ⟩ fun r => ∀ d : Dev nD, ∃ A : Valuation τ sig Val,
      (∀ b : Ref sig .tc, r.2.mem ((d.tc : Thread nD τ).loc b) = A (Proc.devRef .tc b))
      ∧ (∀ b : Ref sig .tc, b.idx.val < n → A (Proc.devRef .tc b) = μ ((d.tc : Thread nD τ).loc b))
      ∧ T (fun _ => True) A := by
  choose ops he ho ht using h
  refine θ_run_mono (run_seq hR hC defs main ops he (fun d => (ho d).bufs_sub) μ ρ fun d => (ho d).fresh) fun r hr d =>
    ⟨after (ops d) (launchContents μ d), hr d, fun b hb => ?_, ht d _ _ ((ho d).fixed _) trivial⟩
  rw [(ho d).after_of_lt _ b hb]

end Cert.Equations
-- ==== Proof.RefEqs.lean ====
/-
  The type of the reference's systems of equations.
-/
module

public import proofs.«01_k».proof.ReferenceIdeal
public import Idealize.ShloMosaic.PureOps.Ideal

@[expose] public section

namespace Cert.ReferenceIdeal.Run

open Cert.ReferenceIdeal Idealize.ShloMosaic

/-- A system of equations over the reference's buffers, over the reals: see `Line`. -/
abbrev Eqs := (Valuation τ sig (Elt Ideal) → Prop) → Valuation τ sig (Elt Ideal) → Prop

end Cert.ReferenceIdeal.Run
-- ==== Proof.RefCipherFold.lean ====
/-
  The reference's first call of the block cipher, as a line of equations (Line.lean): the call that folds the split's
  number into the key, over the four splits.
-/
module

public import proofs.«01_k».proof.Proof.Gen.ReferenceIdeal
public import proofs.«01_k».proof.Proof.Line
public import proofs.«01_k».proof.Proof.RefEqs
public import Idealize.ShloMosaic.PureOps.Ideal

@[expose] public section

set_option maxHeartbeats 4000000
set_option maxRecDepth 10000

noncomputable section

namespace Cert.ReferenceIdeal.Run

open Cert.ReferenceIdeal Cert.ReferenceIdeal.Gen Cert.Equations
open Idealize.ShloMosaic Idealize.ShloMosaic.TcCoe Idealize.SL.Sem

/-- The cipher call of `fold_in`. -/
def foldCipher : {T : Eqs // Line (fn_threefry2x32.body (F := Ideal) main_call0.v8 main_call0.v10 main_call0.v11
    main_call0.v12 main_call0.call0) 28 250 T} := by
  apply Subtype.mk
  unfold fn_threefry2x32.body fn_threefry2x32.body_part0 fn_threefry2x32.body_part1 fn_threefry2x32.body_part2
    fn_threefry2x32.body_part3
  apply Line.append; rotate_left; apply Line.append; rotate_left; apply Line.append
  all_goals repeat (first
    | apply Line.cons (Line.binary (by decide) (by decide) rfl)
    | apply Line.cons (Line.unary (by decide) rfl)
    | apply Line.cons (Line.nullary rfl)
    | exact Line.nil _
    | exact Line.last (Line.binary (by decide) (by decide) rfl)
    | exact Line.last (Line.unary (by decide) rfl)
    | exact Line.last (Line.nullary rfl))

end Cert.ReferenceIdeal.Run
-- ==== Proof.RefCipherBits.lean ====
/-
  The reference's second call of the block cipher, as a line of equations (Line.lean): the call that draws the random
  words, over every counter of every split.
-/
module

public import proofs.«01_k».proof.Proof.Gen.ReferenceIdeal
public import proofs.«01_k».proof.Proof.Line
public import proofs.«01_k».proof.Proof.RefEqs
public import Idealize.ShloMosaic.PureOps.Ideal

@[expose] public section

set_option maxHeartbeats 4000000
set_option maxRecDepth 10000

noncomputable section

namespace Cert.ReferenceIdeal.Run

open Cert.ReferenceIdeal Cert.ReferenceIdeal.Gen Cert.Equations
open Idealize.ShloMosaic Idealize.ShloMosaic.TcCoe Idealize.SL.Sem

/-- The cipher call of `uniform`. -/
def bitsCipher : {T : Eqs // Line (fn_threefry2x32_0.body (F := Ideal) main_call1.v29 main_call1.v30 main_call1.v27
    main_call1.v28 main_call1.call0) 298 523 T} := by
  apply Subtype.mk
  unfold fn_threefry2x32_0.body fn_threefry2x32_0.body_part0 fn_threefry2x32_0.body_part1 fn_threefry2x32_0.body_part2
    fn_threefry2x32_0.body_part3
  apply Line.append; rotate_left; apply Line.append; rotate_left; apply Line.append
  all_goals repeat (first
    | apply Line.cons (Line.binary (by decide) (by decide) rfl)
    | apply Line.cons (Line.unary (by decide) rfl)
    | apply Line.cons (Line.nullary rfl)
    | exact Line.nil _
    | exact Line.last (Line.binary (by decide) (by decide) rfl)
    | exact Line.last (Line.unary (by decide) rfl)
    | exact Line.last (Line.nullary rfl))

end Cert.ReferenceIdeal.Run
-- ==== Proof.RefRun.lean ====
/-
  The reference as one line of equations (Line.lean), and its run: from any memory the reference runs, and at the end the
  contents of its buffers satisfy the equations, the argument as launched.
-/
module

public import proofs.«01_k».proof.Proof.RefCipherFold
public import proofs.«01_k».proof.Proof.RefCipherBits

@[expose] public section

set_option maxHeartbeats 4000000
set_option maxRecDepth 10000

noncomputable section

namespace Cert.ReferenceIdeal.Run

open Cert.ReferenceIdeal Cert.ReferenceIdeal.Gen Cert.Equations
open Idealize.ShloMosaic Idealize.ShloMosaic.TcCoe Idealize.SL.Sem

/-- `fold_in`: the split's number into two words, and the cipher over them under the seed's key. -/
def foldIn : {T : Eqs // Line (fn_threefry_fold_in.body (F := Ideal) (.of main_v7) (.of main_v0) main_call0) 13 251 T} := by
  apply Subtype.mk
  unfold fn_threefry_fold_in.body
  repeat (first
    | apply Line.append foldCipher.2
    | apply Line.cons (Line.binary (by decide) (by decide) rfl)
    | apply Line.cons (Line.unary (by decide) rfl)
    | apply Line.cons (Line.nullary rfl)
    | apply Line.cons (Line.reshape (by decide) rfl)
    | exact Line.nil _)

/-- `uniform`: the counters, the cipher over them under each split's key, and the words as numbers in [0, 1). -/
def uniform : {T : Eqs // Line (fn_uniform.body (F := Ideal) (.of main_v8) (.of main_cst) (.of main_cst_3) main_call1)
    262 544 T} := by
  apply Subtype.mk
  unfold fn_uniform.body
  repeat (first
    | apply Line.append bitsCipher.2
    | apply Line.cons (Line.binary (by decide) (by decide) rfl)
    | apply Line.cons (Line.unary (by decide) rfl)
    | apply Line.cons (Line.nullary rfl)
    | apply Line.cons (Line.reshape (by decide) rfl)
    | exact Line.nil _)

/-- `argmax` along the channels of a split. -/
def argmax : {T : Eqs // Line (fn_argmax.body (F := Ideal) (.of main_v29) main_call2) 558 563 T} := by
  apply Subtype.mk
  unfold fn_argmax.body
  repeat (first
    | apply Line.cons (Line.quaternary (by decide) (by decide) (by decide) (by decide) rfl)
    | apply Line.cons (Line.nullary rfl)
    | exact Line.nil _)

/-- `one_hot`: the indicator of the index among the sixteen channels. -/
def oneHot : {T : Eqs // Line (fn_one_hot.body (F := Ideal) (.of main_v33) main_call3) 566 572 T} := by
  apply Subtype.mk
  unfold fn_one_hot.body
  repeat (first
    | apply Line.cons (Line.binary (by decide) (by decide) rfl)
    | apply Line.cons (Line.unary (by decide) rfl)
    | apply Line.cons (Line.nullary rfl)
    | exact Line.nil _)

/-- The whole reference. -/
def whole : {T : Eqs // ∀ d, Line (main (F := Ideal) d) 1 575 T} := by
  apply Subtype.mk
  intro d
  unfold main
  repeat (first
    | apply Line.append argmax.2
    | apply Line.append oneHot.2
    | apply Line.append uniform.2
    | apply Line.append foldIn.2
    | apply Line.cons (Line.binary' (by decide) (by decide) rfl)
    | apply Line.cons (Line.unary' (by decide) rfl)
    | apply Line.cons (Line.nullary' rfl)
    | apply Line.cons (Line.reshape' (by decide) rfl)
    | apply Line.cons (Line.nary (by decide) rfl)
    | exact Line.nil _)

/-- The reference's run: the final contents of its buffers satisfy its equations, its argument as launched. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ fun r =>
      ∀ d : Dev nD, ∃ A : Valuation τ sig (Elt Ideal),
        (∀ b : Ref sig .tc, r.2.mem ((d.tc : Thread nD τ).loc b) = A (Proc.devRef .tc b))
        ∧ (∀ b : Ref sig .tc, b.idx.val < 1 → A (Proc.devRef .tc b) = μ ((d.tc : Thread nD τ).loc b))
        ∧ whole.1 (fun _ => True) A :=
  Line.run defs whole.2 (by decide) (by decide) μ ρ

end Cert.ReferenceIdeal.Run
-- ==== Proof.RefSteps.lean ====
/-
  One round and one key injection of the block cipher as the reference writes them over whole arrays: nine equations and
  seven. Each lemma takes the state before at every index with the equations that follow, and gives the state after with
  the equations left.
-/
module

public import proofs.«01_k».proof.Proof.Threefry

@[expose] public section

namespace Cert.Cipher

open Idealize.ShloMosaic

variable {s u : Shape} {S : s.Idx → State} {rest : Prop}

/-- Nine equations of the reference are a round. -/
theorem round_step {x y a sl sr o z b d : IVec s 32} {c e : IVec u 32} {r l : BitVec 32} {dims dims' : Fin u.rank → Fin s.rank}
    {hc : u.BroadcastsInDim s dims} {he : u.BroadcastsInDim s dims'}
    (h : (∀ i, (x i, y i) = S i)
      ∧ (a = addi x y ∧ c = constantI u 32 r ∧ b = broadcastInDim s dims hc c ∧ sl = Host.shli y b
        ∧ e = constantI u 32 l ∧ d = broadcastInDim s dims' he e ∧ sr = Host.shrui y d ∧ o = ori sl sr
        ∧ z = xori a o ∧ rest))
    (hr : r.toNat < 32 := by decide) (hl : l.toNat < 32 := by decide) (hrl : l = 32 - r := by decide) :
    (∀ i, (a i, z i) = round r (S i)) ∧ rest := by
  obtain ⟨hS, rfl, rfl, rfl, rfl, rfl, rfl, rfl, rfl, rfl, hrest⟩ := h
  refine ⟨fun i => ?_, hrest⟩
  subst hrl
  rw [← hS i]
  have h1 : Host.shli y (broadcastInDim s dims hc (constantI u 32 r)) i = y i <<< r := if_pos hr
  have h2 : Host.shrui y (broadcastInDim s dims' he (constantI u 32 (32 - r))) i = y i >>> (32 - r) := if_pos hl
  show (_, IntOp.xori _ (IntOp.ori _ _)) = _
  rw [h1, h2]
  rfl

/-- Seven equations of the reference are a key injection; `K` and `L` are the two key words broadcast over the array. -/
theorem inject_step {x y a b k l z K L d : IVec s 32} {c : IVec u 32} {j : BitVec 32} {k0 k1 : s.Idx → BitVec 32}
    {dims : Fin u.rank → Fin s.rank} {hc : u.BroadcastsInDim s dims} (hK : ∀ i, K i = k0 i) (hL : ∀ i, L i = k1 i)
    (h : (∀ i, (x i, y i) = S i)
      ∧ (k = K ∧ a = addi x k ∧ l = L ∧ b = addi y l ∧ c = constantI u 32 j ∧ d = broadcastInDim s dims hc c
        ∧ z = addi b d ∧ rest)) :
    (∀ i, (a i, z i) = inject (k0 i) (k1 i) j (S i)) ∧ rest := by
  obtain ⟨hS, rfl, rfl, rfl, rfl, rfl, rfl, rfl, hrest⟩ := h
  refine ⟨fun i => ?_, hrest⟩
  rw [← hS i, ← hK i, ← hL i]
  rfl

end Cert.Cipher
-- ==== Proof.RefFold.lean ====
/-
  The reference's cipher calls read at an index: the equations of either call say that its two results are the cipher of the
  key and the counter there.
-/
module

public import proofs.«01_k».proof.Proof.RefCipherFold
public import proofs.«01_k».proof.Proof.RefSteps

@[expose] public section

namespace Cert.ReferenceIdeal.Run

open Cert.ReferenceIdeal Cert.ReferenceIdeal.Gen Cert.Equations Cert.Cipher
open Idealize.ShloMosaic Idealize.SL.Sem

/-- The cipher call of `fold_in`: its two results at an index are the cipher under the one key at that index's counter. -/
theorem foldCipher_value {R : Valuation τ sig (Elt Ideal) → Prop} {A : Valuation τ sig (Elt Ideal)} (h : foldCipher.1 R A)
    {k0 k1 : BitVec 32} (h0 : ∀ i, val A main_call0.v8 i = k0) (h1 : ∀ i, val A main_call0.v10 i = k1) :
    (∀ i, (val A main_call0.call0.v171 i, val A main_call0.call0.v175 i)
      = threefry k0 k1 (val A main_call0.v11 i) (val A main_call0.v12 i)) ∧ R A := by
  obtain ⟨e0, ec, e1, e2, e3, e4, e5, h⟩ := h
  have K0 : ∀ i, broadcastInDim S4x1 ![] Gen.facts.toFacts₀.bcast_S_S4x1 (val A main_call0.v8) i = k0 := fun i => h0 _
  have K1 : ∀ i, broadcastInDim S4x1 ![] Gen.facts.toFacts₀.bcast_S_S4x1 (val A main_call0.v10) i = k1 := fun i => h1 _
  have K2 : ∀ i, broadcastInDim S4x1 ![] Gen.facts.toFacts₀.bcast_S_S4x1 (val A main_call0.call0.v1) i = thirdWord k0 k1 := by
    intro i
    rw [e1, ec, e0]
    show (val A main_call0.v8 _ ^^^ val A main_call0.v10 _) ^^^ _ = _
    rw [h0, h1]; rfl
  have h : (∀ i, (val A main_call0.call0.v3 i, val A main_call0.call0.v5 i)
      = (fun i => (val A main_call0.v11 i + k0, val A main_call0.v12 i + k1)) i) ∧ _ := ⟨fun i => by
    rw [e3, e5, e2, e4]
    show (val A main_call0.v11 i + _, val A main_call0.v12 i + _) = _
    rw [K0, K1], h⟩
  iterate 4 replace h := round_step h
  replace h := inject_step K1 K2 h
  iterate 4 replace h := round_step h
  replace h := inject_step K2 K0 h
  iterate 4 replace h := round_step h
  replace h := inject_step K0 K1 h
  iterate 4 replace h := round_step h
  replace h := inject_step K1 K2 h
  iterate 4 replace h := round_step h
  exact inject_step K2 K0 h

end Cert.ReferenceIdeal.Run
-- ==== Proof.RefKeys.lean ====
/-
  The reference's keys: `fold_in` of the split's number into the seed's key, read at an index.
-/
module

public import proofs.«01_k».proof.Proof.RefRun
public import proofs.«01_k».proof.Proof.RefFold
public import proofs.«01_k».proof.Proof.Spec

@[expose] public section

namespace Cert.ReferenceIdeal.Run

open Cert.ReferenceIdeal Cert.ReferenceIdeal.Gen Cert.Equations Cert.Cipher
open Idealize.ShloMosaic Idealize.SL.Sem

/-- The splits' keys: row `s` of the result of `fold_in` is the key of split `s`. -/
theorem foldIn_value {R : Valuation τ sig (Elt Ideal) → Prop} {A : Valuation τ sig (Elt Ideal)} (h : foldIn.1 R A)
    (hk : val A (.of main_v7) = (fun i => ![0, 42] (i 0) : IVec S2 32))
    (hn : val A (.of main_v0) = (fun i => BitVec.ofNat 32 (i 0).val : IVec S4 32)) :
    (∀ s : Fin 4, (val A (.of main_v8) (ix2 s 0), val A (.of main_v8) (ix2 s 1)) = key s) ∧ R A := by
  obtain ⟨ec, e0, e1, e2, ec0, e3, e4, e5, e6, e7, e8, e9, e10, e11, e12, h⟩ := h
  have k0 : ∀ i, val A main_call0.v8 i = 0#32 := by
    clear h
    intro i
    rw [e8, e7, hk]
    pointwise
    rfl
  have k1 : ∀ i, val A main_call0.v10 i = 42#32 := by
    clear h
    intro i
    rw [e10, e9, hk]
    pointwise
    rfl
  have x0 : ∀ s : Fin 4, val A main_call0.v11 (ix2 s 0) = 0#32 := by
    clear h
    intro s
    rw [e11, e6, e2, e1, e0, ec, hn]
    pointwise
    revert s
    decide
  have x1 : ∀ s : Fin 4, val A main_call0.v12 (ix2 s 0) = BitVec.ofNat 32 s := by
    clear h
    intro s
    rw [e12, e6, e5, e4, e3, ec0, hn]
    pointwise
    exact BitVec.and_allOnes
  obtain ⟨hc, e14, h⟩ := foldCipher_value h k0 k1
  refine ⟨fun s => ?_, h⟩
  clear h
  have hs := hc (ix2 s 0)
  rw [x0, x1] at hs
  rw [show val A (.of main_v8) = _ from e14]
  refine Eq.trans ?_ hs
  pointwise

end Cert.ReferenceIdeal.Run
-- ==== Proof.RefDraw.lean ====
/-
  The reference's second cipher call read at an index: the equations of the call say that its two results are the cipher
  of the split's key at the counter there.
-/
module

public import proofs.«01_k».proof.Proof.RefCipherBits
public import proofs.«01_k».proof.Proof.RefSteps

@[expose] public section

namespace Cert.ReferenceIdeal.Run

open Cert.ReferenceIdeal Cert.ReferenceIdeal.Gen Cert.Equations Cert.Cipher
open Idealize.ShloMosaic Idealize.SL.Sem

/-- A key word per split, broadcast over the counters. -/
abbrev overCounters (x : IVec S4x1x1x1x1 32) : IVec S4x1024x32x32x4 32 :=
  broadcastInDim S4x1024x32x32x4 ![0, 1, 2, 3, 4] Gen.facts.toFacts₀.bcast_S4x1x1x1x1_S4x1024x32x32x4_0_1_2_3_4 x

/-- A counter word, broadcast over the splits. -/
abbrev overSplits (x : IVec S1x1024x32x32x4 32) : IVec S4x1024x32x32x4 32 :=
  broadcastInDim S4x1024x32x32x4 ![0, 1, 2, 3, 4] Gen.facts.toFacts₀.bcast_S1x1024x32x32x4_S4x1024x32x32x4_0_1_2_3_4 x

/-- The cipher call of `uniform`: its two results at an index are the cipher under the split's key at the counter. -/
theorem bitsCipher_value {R : Valuation τ sig (Elt Ideal) → Prop} {A : Valuation τ sig (Elt Ideal)} (h : bitsCipher.1 R A) :
    (∀ i, (val A main_call1.call0.v174 i, val A main_call1.call0.v178 i)
      = threefry (overCounters (val A main_call1.v29) i) (overCounters (val A main_call1.v30) i)
          (overSplits (val A main_call1.v27) i) (overSplits (val A main_call1.v28) i)) ∧ R A := by
  obtain ⟨e0, ec, eb, e2, e3, e4, e5, e6, e7, e8, h⟩ := h
  have K0 : ∀ i, overCounters (val A main_call1.v29) i = overCounters (val A main_call1.v29) i := fun i => rfl
  have K1 : ∀ i, overCounters (val A main_call1.v30) i = overCounters (val A main_call1.v30) i := fun i => rfl
  have K2 : ∀ i, overCounters (val A main_call1.call0.v2) i
      = thirdWord (overCounters (val A main_call1.v29) i) (overCounters (val A main_call1.v30) i) := by
    intro i
    rw [e2, eb, ec, e0]; rfl
  have h : (∀ i, (val A main_call1.call0.v5 i, val A main_call1.call0.v8 i)
      = (fun i => (overSplits (val A main_call1.v27) i + overCounters (val A main_call1.v29) i,
          overSplits (val A main_call1.v28) i + overCounters (val A main_call1.v30) i)) i) ∧ _ := ⟨fun i => by
    rw [e5, e8, e3, e4, e6, e7]; rfl, h⟩
  iterate 4 replace h := round_step h
  replace h := inject_step K1 K2 h
  iterate 4 replace h := round_step h
  replace h := inject_step K2 K0 h
  iterate 4 replace h := round_step h
  replace h := inject_step K0 K1 h
  iterate 4 replace h := round_step h
  replace h := inject_step K1 K2 h
  iterate 4 replace h := round_step h
  exact inject_step K2 K0 h

end Cert.ReferenceIdeal.Run
-- ==== Proof.RefUniform.lean ====
/-
  The reference's `uniform` read at an index: the fraction of the word that the split's key draws at the channel's number.
-/
module

public import proofs.«01_k».proof.Proof.RefRun
public import proofs.«01_k».proof.Proof.RefDraw
public import proofs.«01_k».proof.Proof.Spec

@[expose] public section

namespace Cert.ReferenceIdeal.Run

open Cert.ReferenceIdeal Cert.ReferenceIdeal.Gen Cert.Equations Cert.Cipher Cert.Spec Cert.Noise
open Idealize.ShloMosaic Idealize.SL.Sem

/-- The number of a draw, computed over 64 bits. -/
theorem counter_wide (b : Fin 1024) (h w : Fin 32) (c : Fin 4) :
    4096#64 * BitVec.ofNat 64 b + 128#64 * BitVec.ofNat 64 h + 4#64 * BitVec.ofNat 64 w + 1#64 * BitVec.ofNat 64 c
      = BitVec.ofNat 64 (((b.val * 32 + h.val) * 32 + w.val) * 4 + c.val) := by
  have := b.isLt; have := h.isLt; have := w.isLt; have := c.isLt
  apply BitVec.eq_of_toNat_eq
  simp only [BitVec.toNat_add, BitVec.toNat_mul, BitVec.toNat_ofNat]
  omega

/-- The high word of a draw's number is zero. -/
theorem counter_high (b : Fin 1024) (h w : Fin 32) (c : Fin 4) :
    (IntOp.shrui .host (BitVec.ofNat 64 (((b.val * 32 + h.val) * 32 + w.val) * 4 + c.val)) 32#64).setWidth 32 = 0 := by
  have := b.isLt; have := h.isLt; have := w.isLt; have := c.isLt
  rw [IntOp.shrui, if_pos (by decide)]
  apply BitVec.eq_of_toNat_eq
  rw [BitVec.toNat_setWidth]
  show (BitVec.ofNat 64 _ >>> 32).toNat % _ = _
  rw [BitVec.toNat_ushiftRight, BitVec.toNat_ofNat, Nat.shiftRight_eq_div_pow]
  show _ = 0
  omega

/-- The low word of a draw's number is the number. -/
theorem counter_low (b : Fin 1024) (h w : Fin 32) (c : Fin 4) :
    (BitVec.ofNat 64 (((b.val * 32 + h.val) * 32 + w.val) * 4 + c.val)).setWidth 32 = counter b h w c := by
  apply BitVec.eq_of_toNat_eq
  rw [counter, BitVec.toNat_setWidth, BitVec.toNat_ofNat, BitVec.toNat_ofNat]
  omega

/-- The uniform number of channel `c` of site `b, h, w` in split `s`. -/
theorem uniform_value {R : Valuation τ sig (Elt Ideal) → Prop} {A : Valuation τ sig (Elt Ideal)} (h : uniform.1 R A)
    (hk : ∀ s : Fin 4, (val A (.of main_v8) (ix2 s 0), val A (.of main_v8) (ix2 s 1)) = key s)
    (hz : val A (.of main_cst) = (constant S_ .f32 0x00000000#32 : FVec Ideal S_ .f32))
    (ho : val A (.of main_cst_3) = (constant S_ .f32 0x3F800000#32 : FVec Ideal S_ .f32)) :
    (∀ (s : Fin 4) (b : Fin 1024) (i w : Fin 32) (c : Fin 4),
      val A (.of main_v18) (ix5 s b i w c) = fraction (word (key s).1 (key s).2 0 (counter b i w c))) ∧ R A := by
  obtain ⟨e0, e1, e2, e3, e4, e5, e6, e7, e8, e9, e10, e11, ec, e12, e13, ec0, e14, e15, ec1, e16, e17, ec2, e18, e19,
    e20, e21, e22, ec3, e23, e24, e25, e26, e27, e28, e29, e30, h⟩ := h
  have k0 : ∀ (s : Fin 4) (b : Fin 1024) (i w : Fin 32) (c : Fin 4),
      overCounters (val A main_call1.v29) (ix5 s b i w c) = (key s).1 := by
    clear h
    intro s b i w c
    rw [← hk, overCounters, e29, e5, e4]
    pointwise
  have k1 : ∀ (s : Fin 4) (b : Fin 1024) (i w : Fin 32) (c : Fin 4),
      overCounters (val A main_call1.v30) (ix5 s b i w c) = (key s).2 := by
    clear h
    intro s b i w c
    rw [← hk, overCounters, e30, e7, e6]
    pointwise
  have v22 : ∀ (b : Fin 1024) (i w : Fin 32) (c : Fin 4), val A main_call1.v22 (ix4 b i w c)
      = BitVec.ofNat 64 (((b.val * 32 + i.val) * 32 + w.val) * 4 + c.val) := by
    clear h
    intro b i w c
    rw [← counter_wide, e22, e21, e20, e19, e18, ec2, e17, e16, ec1, e15, e14, ec0, e13, e12, ec, e11, e10, e9, e8]
    pointwise
    rfl
  have x0 : ∀ (s : Fin 4) (b : Fin 1024) (i w : Fin 32) (c : Fin 4),
      overSplits (val A main_call1.v27) (ix5 s b i w c) = 0 := by
    clear h
    intro s b i w c
    rw [overSplits, e27, e26, e24, e23, ec3]
    pointwise
    rw [v22]
    exact counter_high b i w c
  have x1 : ∀ (s : Fin 4) (b : Fin 1024) (i w : Fin 32) (c : Fin 4),
      overSplits (val A main_call1.v28) (ix5 s b i w c) = counter b i w c := by
    clear h
    intro s b i w c
    rw [overSplits, e28, e25]
    pointwise
    rw [v22]
    exact counter_low b i w c
  clear e4 e5 e6 e7 e8 e9 e10 e11 ec e12 e13 ec0 e14 e15 ec1 e16 e17 ec2 e18 e19
  obtain ⟨hd, e32, ec4, e33, e34, ec5, e35, e36, e37, ecst, e38, e39, e40, e41, e42, e43, e44, e45, e46, e47, e48, e49, h⟩ :=
    bitsCipher_value h
  refine ⟨fun s b i w c => ?_, h⟩
  clear h
  have hs := hd (ix5 s b i w c)
  rw [k0, k1, x0, x1] at hs
  have v39 : val A main_call1.v39 (ix5 s b i w c) = fraction (word (key s).1 (key s).2 0 (counter b i w c)) := by
    rw [e39, e38, ecst, e37, e36, e35, ec5, e34, e33, ec4, e32, word, ← hs, fraction]
    pointwise
    rfl
  rw [show val A (.of main_v18) = _ from e49, e48, e47, e46, e45, e44, e43, e42, e41, e40, e3, e2, e1, e0, hz, ho]
  pointwise [v39, id]
  have := fraction_nonneg (word (key s).1 (key s).2 0 (counter b i w c))
  generalize fraction (word (key s).1 (key s).2 0 (counter b i w c)) = f at this ⊢
  simpa using this

end Cert.ReferenceIdeal.Run
-- ==== Proof.Argmax.lean ====
/-
  The reference's `argmax` along the channels of a split: the index it returns is that of the first of the largest.
-/
module

public import proofs.«01_k».proof.Proof.Spec
public import proofs.«01_k».proof.Proof.Gen.ReferenceIdeal

@[expose] public section

namespace Cert.Argmax

open Idealize.ShloMosaic Cert.ReferenceIdeal Cert.Spec

/-- A value with its index. -/
abbrev Entry := Ideal .f32 × BitVec 32

/-- `r` beats `p`: a larger value, or the same value at an index not larger. -/
def Beats (r p : Entry) : Prop := p.1 < r.1 ∨ (p.1 = r.1 ∧ r.2.toInt ≤ p.2.toInt)

/-- Beating is transitive. -/
theorem Beats.trans {a b c : Entry} (h : Beats a b) (h' : Beats b c) : Beats a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- Every entry beats itself. -/
theorem Beats.refl (a : Entry) : Beats a a := .inr ⟨rfl, le_rfl⟩

/-- One step of the reduction keeps one of its two entries, and the one it keeps beats both. -/
theorem step (a b : Entry) :
    (reducer_argmax_f32_i32 a b = a ∨ reducer_argmax_f32_i32 a b = b)
      ∧ Beats (reducer_argmax_f32_i32 a b) a ∧ Beats (reducer_argmax_f32_i32 a b) b := by
  obtain ⟨x, i⟩ := a
  obtain ⟨y, j⟩ := b
  have e : reducer_argmax_f32_i32 ((x, i) : Entry) (y, j)
      = if y < x ∨ (x = y ∧ i.toInt < j.toInt) then ((x, i) : Entry) else (y, j) := by
    simp only [reducer_argmax_f32_i32, Scalar.select, Ideal.cmpf_def, Ideal.cmp, IntOp.ori, IntOp.andi, IntOp.cmpi]
    rcases lt_trichotomy (x : EReal) y with h | h | h
    · simp [h, h.not_gt, h.ne]
    · subst h
      by_cases k : i.toInt < j.toInt <;> simp [k, BitVec.slt]
    · simp [h, h.not_gt, h.ne']
  rw [e]
  split
  case isTrue h =>
    refine ⟨.inl rfl, .refl _, ?_⟩
    rcases h with h | ⟨h, k⟩
    exacts [.inl h, .inr ⟨h.symm, k.le⟩]
  case isFalse h =>
    refine ⟨.inr rfl, ?_, .refl _⟩
    push Not at h
    rcases h.1.lt_or_eq with k | k
    exacts [.inl k, .inr ⟨k, h.2 k⟩]

/-- The reduction of a list of entries is one of them, and beats them all. -/
theorem fold (L : List Entry) : ∀ a : Entry,
    (L.foldl reducer_argmax_f32_i32 a = a ∨ L.foldl reducer_argmax_f32_i32 a ∈ L)
      ∧ Beats (L.foldl reducer_argmax_f32_i32 a) a ∧ ∀ p ∈ L, Beats (L.foldl reducer_argmax_f32_i32 a) p := by
  induction L with
  | nil => exact fun a => ⟨.inl rfl, .refl _, fun p hp => absurd hp (by simp)⟩
  | cons b L ih =>
    intro a
    obtain ⟨hm, hb, hl⟩ := ih (reducer_argmax_f32_i32 a b)
    obtain ⟨sm, sa, sb⟩ := step a b
    rw [List.foldl_cons]
    refine ⟨?_, hb.trans sa, fun p hp => ?_⟩
    · rcases hm with hm | hm
      · rcases sm with sm | sm
        exacts [.inl (hm.trans sm), .inr ((hm.trans sm).symm ▸ List.mem_cons_self ..)]
      · exact .inr (List.mem_cons_of_mem _ hm)
    · rcases List.mem_cons.mp hp with rfl | hp
      exacts [hb.trans sb, hl p hp]

/-- The reduction of four values with their indices, from the least value with the index zero, gives the index of the
    first of the largest. -/
theorem fold_wins (v : Fin 4 → EReal) (L : List Entry) (hL : ∀ p : Entry, p ∈ L ↔ ∃ c : Fin 4, p = (v c, BitVec.ofNat 32 c)) :
    ∃ c : Fin 4, (L.foldl reducer_argmax_f32_i32 ((⊥, 0) : Entry)).2 = BitVec.ofNat 32 c ∧ Wins v c := by
  obtain ⟨hm, -, hl⟩ := fold L (⊥, 0)
  generalize L.foldl reducer_argmax_f32_i32 ((⊥, 0) : Entry) = r at hm hl
  have hv : ∀ c : Fin 4, Beats r (v c, BitVec.ofNat 32 c) := fun c => hl _ ((hL _).mpr ⟨c, rfl⟩)
  have hi : ∀ c : Fin 4, (BitVec.ofNat 32 c).toInt = c := by decide
  obtain ⟨c, hc⟩ : ∃ c : Fin 4, r = (v c, BitVec.ofNat 32 c) := by
    rcases hm with rfl | hm
    · refine ⟨0, ?_⟩
      rcases hv 0 with h | ⟨h, -⟩
      exacts [absurd h not_lt_bot, Prod.ext h.symm rfl]
    · exact (hL r).mp hm
  subst hc
  refine ⟨c, rfl, fun j hj => ?_, fun j hj => ?_⟩
  · rcases hv j with h | ⟨-, h⟩
    · exact h
    · rw [hi, hi] at h
      omega
  · rcases hv j with h | ⟨h, -⟩
    exacts [h.le, h.le]

/-- The reference's reduction along the last axis, of a split's noisy logits with the numbers of the channels. -/
theorem argReduce_wins (x : FVec Ideal S4x1024x32x32x4 .f32) (y : IVec S4x1024x32x32x4 32) (u : FVec Ideal S_ .f32)
    (v : IVec S_ 32) (hy : ∀ s b h w c, y (ix5 s b h w c) = BitVec.ofNat 32 c.val) (hu : ∀ i, u i = (⊥ : EReal))
    (hv : ∀ i, v i = 0) (hr : S4x1024x32x32x4.ReducesTo [4] S4x1024x32x32) (h0 : 0 < S_.numel)
    (s : Fin 4) (b : Fin 1024) (h w : Fin 32) :
    ∃ c : Fin 4, (Host.argReduce reducer_argmax_f32_i32 x y u v hr h0 (ix4 s b h w)).2 = BitVec.ofNat 32 c
      ∧ Wins (fun c => x (ix5 s b h w c)) c := by
  rw [Ideal.argReduce_eq_reduce2, Host.reduce2_eq_foldl_fiber, hu, hv]
  refine fold_wins _ _ fun p => ?_
  rw [Host.argReduceFiber]
  simp only [List.mem_map, List.mem_filter, List.mem_finRange, true_and, decide_eq_true_eq]
  have hd : ∀ s' b' h' w' c', hr.drop (ix5 s' b' h' w' c') = ix4 s' b' h' w' := by
    intro s' b' h' w' c'
    funext a
    match a with
    | ⟨0, _⟩ => exact Fin.ext (Shape.ReducesTo.drop_apply_val hr (ix5 s' b' h' w' c') 0)
    | ⟨1, _⟩ => exact Fin.ext (Shape.ReducesTo.drop_apply_val hr (ix5 s' b' h' w' c') 1)
    | ⟨2, _⟩ => exact Fin.ext (Shape.ReducesTo.drop_apply_val hr (ix5 s' b' h' w' c') 2)
    | ⟨3, _⟩ => exact Fin.ext (Shape.ReducesTo.drop_apply_val hr (ix5 s' b' h' w' c') 3)
  constructor
  · rintro ⟨n, hn, rfl⟩
    generalize S4x1024x32x32x4.rowMajor.symm n = i at hn ⊢
    idx_vars i
    rw [hd] at hn
    obtain ⟨rfl, rfl, rfl, rfl⟩ := (ix4_inj ..).mp hn
    exact ⟨i4, by rw [hy]⟩
  · rintro ⟨c, rfl⟩
    refine ⟨S4x1024x32x32x4.rowMajor (ix5 s b h w c), ?_, ?_⟩
    · rw [Equiv.symm_apply_apply, hd]
    · rw [Equiv.symm_apply_apply, hy]

end Cert.Argmax
-- ==== Proof.RefValue.lean ====
/-
  The reference's result read at an index: the indicator of the channel drawn.
-/
module

public import proofs.«01_k».proof.Proof.RefKeys
public import proofs.«01_k».proof.Proof.RefUniform
public import proofs.«01_k».proof.Proof.Argmax

@[expose] public section

namespace Cert.ReferenceIdeal.Run

open Cert.ReferenceIdeal Cert.ReferenceIdeal.Gen Cert.Equations Cert.Cipher Cert.Spec Cert.Noise
open Idealize.ShloMosaic Idealize.SL.Sem

/-- The reference's argument. -/
abbrev logits (A : Valuation τ sig (Elt Ideal)) : FVec Ideal S1024x32x32x16 .f32 :=
  val A (T := ⟨S1024x32x32x16, .f32⟩) (.of main_arg0)

/-- The sixteen channels' indicator of channel `e` of split `s`. -/
theorem hot_value (s e : Fin 4) (c : Fin 16) :
    (FloatOps.uitofp .f32 (IntOp.cmpi .eq (IntOp.addi (BitVec.ofNat 32 e) (lit0 (S4.rowMajor (ix1 s)))) (BitVec.ofNat 32 c)) : Ideal .f32)
      = if s.val * 4 + e.val = c.val then (1 : EReal) else 0 := by
  have hl : ∀ s : Fin 4, lit0 (S4.rowMajor (ix1 s)) = BitVec.ofNat 32 (s.val * 4) := by decide
  have hb : ∀ (s e : Fin 4) (c : Fin 16), IntOp.cmpi .eq (IntOp.addi (BitVec.ofNat 32 e) (BitVec.ofNat 32 (s.val * 4))) (BitVec.ofNat 32 c)
      = BitVec.ofBool (decide (s.val * 4 + e.val = c.val)) := by decide
  rw [hl, hb]
  show ((((BitVec.ofBool (decide (s.val * 4 + e.val = c.val))).toNat : ℝ)) : EReal) = _
  by_cases h : s.val * 4 + e.val = c.val <;> simp [h]

/-- The reference's result. -/
theorem whole_value {A : Valuation τ sig (Elt Ideal)} (h : whole.1 (fun _ => True) A) (b : Fin 1024) (i : Fin 32) (l : Fin 512) :
    val A (.of main_v36) (ix3 b i l) = result (logits A) b i l := by
  obtain ⟨ec, e0, ec0, ec1, e1, e2, e3, ec2, e4, e5, e6, e7, h⟩ := h
  have hn : val A (.of main_v0) = (fun i => BitVec.ofNat 32 (i 0).val : IVec S4 32) := e0
  have hk : val A (.of main_v7) = (fun i => ![0, 42] (i 0) : IVec S2 32) := by
    clear h
    funext i
    rw [e7, e6, e5, e4, ec2, e3, e2, e1, ec1, ec0]
    idx_vars i
    revert i0
    decide
  obtain ⟨hkeys, e9, e10, e11, e12, e13, e14, e15, e16, e17, ecst, ecst3, h⟩ := foldIn_value h hk hn
  clear e0 ec0 ec1 e1 e2 e3 ec2 e4 e5 e6 e7 hn hk
  obtain ⟨hu, ecst4, e19, e20, ecst5, e21, e22, ecst6, e23, e24, e25, e26, e27, e28, e29, h⟩ :=
    uniform_value h hkeys ecst ecst3
  clear hkeys ecst ecst3
  obtain ⟨a0, acst, ac, -, a1, e31, e32, e33, h0, h1, h2, h3, h4, h5, ecst7, e35, e36, -⟩ := h
  have v17 : ∀ (s : Fin 4) (b : Fin 1024) (i w : Fin 32) (c : Fin 4),
      val A (.of main_v17) (ix5 s b i w c) = logits A (ix4 b i w (channel s c)) := by
    intro s b i w c
    have e : val A (T := ⟨S4x1024x32x32x4, .f32⟩) (.of main_v17) = concatenate S4x1024x32x32x4 0
      [⟨S1x1024x32x32x4, val A (T := ⟨S1x1024x32x32x4, .f32⟩) (.of main_v13)⟩,
        ⟨S1x1024x32x32x4, val A (T := ⟨S1x1024x32x32x4, .f32⟩) (.of main_v14)⟩,
        ⟨S1x1024x32x32x4, val A (T := ⟨S1x1024x32x32x4, .f32⟩) (.of main_v15)⟩,
        ⟨S1x1024x32x32x4, val A (T := ⟨S1x1024x32x32x4, .f32⟩) (.of main_v16)⟩]
      Gen.facts.toFacts₀.concatenates_S1x1024x32x32x4_S1x1024x32x32x4_S1x1024x32x32x4_S1x1024x32x32x4_S4x1024x32x32x4_d0 := e17
    rw [e, e13, e14, e15, e16, e9, e10, e11, e12]
    pointwise
    fin_vals s with hs
    all_goals simp only [hs, Nat.reduceSub, Nat.reduceLT, ↓reduceDIte]
    all_goals exact congrArg (fun k => logits A (ix4 b i w k)) (Fin.ext (by simp [channel, hs]))
  have v29 : ∀ (s : Fin 4) (b : Fin 1024) (i w : Fin 32) (c : Fin 4),
      val A (.of main_v29) (ix5 s b i w c) = score (logits A) s b i w c := by
    intro s b i w c
    rw [e29, e28, e27, e26, e25, e24, e23, ecst6, e22, e21, ecst5, e20, e19, ecst4]
    pointwise [v17, hu]
    rw [show Ideal.ofBits .f32 8388608#32 = tiny from rfl, max_eq_right (le_add_of_nonneg_left (fraction_nonneg _)), add_comm]
    rfl
  have v30 : ∀ (s : Fin 4) (b : Fin 1024) (i w : Fin 32), ∃ c : Fin 4,
      val A (.of main_v30) (ix4 s b i w) = BitVec.ofNat 32 c ∧ Wins (score (logits A) s b i w) c := by
    intro s b i w
    obtain ⟨c, hc, hw⟩ := Argmax.argReduce_wins (val A (.of main_v29)) (val A main_call2.v0) (val A main_call2.cst) (val A main_call2.c)
      (fun s b h w c => by rw [a0]; pointwise) (fun i => by rw [acst]; pointwise; exact negInf_eq) (fun i => by rw [ac]; rfl)
      Gen.facts.toFacts₀.reducesTo_S4x1024x32x32x4_S4x1024x32x32_d4 Gen.facts.toFacts₀.h_S_ s b i w
    refine ⟨c, ?_, ?_⟩
    · rw [show val A (.of main_v30) = _ from a1]; exact hc
    · rwa [funext (v29 s b i w)] at hw
  choose d hd using fun s => v30 s b i (laneSite l)
  have v34 : ∀ (s : Fin 4) (c : Fin 16), val A (.of main_v34) (ix5 s b i (laneSite l) c)
      = if s.val * 4 + (d s).val = c.val then (1 : EReal) else 0 := by
    intro s c
    rw [show val A (.of main_v34) = _ from h5, h4, h3, h2, h1, h0, e33, e32, e31, ec]
    pointwise
    rw [(hd s).1]
    exact hot_value s (d s) c
  have total : (∑ s : Fin 4, if s.val * 4 + (d s).val = l.val % 16 then (1 : EReal) else 0) = result (logits A) b i l := by
    rw [Finset.sum_eq_single (laneSplit l)]
    · have hw := (hd (laneSplit l)).2
      have hl := l.isLt
      rw [result, chosen]
      by_cases hc : d (laneSplit l) = laneChannel l
      · rw [if_pos (by rw [hc]; simp only [laneSplit, laneChannel]; omega), if_pos (hc ▸ hw)]
      · rw [if_neg (fun he => hc (Fin.ext ?_)), if_neg fun he => hc (hw.unique he)]
        have := (d (laneSplit l)).isLt
        simp only [laneSplit, laneChannel] at he ⊢
        omega
    · intro s _ hs
      rw [if_neg]
      intro he
      have := (d s).isLt
      exact hs (Fin.ext (by simp only [laneSplit]; omega))
    · exact fun h => absurd (Finset.mem_univ _) h
  rw [e36, e35, ecst7]
  pointwise
  exact (Finset.sum_congr (M := EReal) rfl fun s _ => v34 s ⟨l.val % 16, by omega⟩).trans total

end Cert.ReferenceIdeal.Run
-- ==== Proof.Certificate.lean ====
/-
  The pieces of the certificate: the precondition read at a split, the runs that leave the arguments and the counters as
  they were, and the two programs' equal results.
-/
module

public import proofs.«01_k».proof.Defs
public import proofs.«01_k».proof.Proof.KernelValue
public import proofs.«01_k».proof.Proof.RefValue
public import Idealize.ShloMosaic.Lib.Quiescent

@[expose] public section

noncomputable section

namespace Cert.Certificate

open Cert.Spec Cert.KernelIdeal.Block Idealize.ShloMosaic Idealize.SL.Sem

/-- The slices the precondition takes fit. -/
theorem pre_facts : Cert.Pre_some_channel_possible.Facts where
  bcast_S_S1024x32x32x16 := by decide
  slicesBy_S1024x32x32x16_S1024x32x32x4_0s1_0s1_0s1_0s4 := by decide
  slicesBy_S1024x32x32x16_S1024x32x32x4_0s1_0s1_0s1_1s4 := by decide
  slicesBy_S1024x32x32x16_S1024x32x32x4_0s1_0s1_0s1_2s4 := by decide
  slicesBy_S1024x32x32x16_S1024x32x32x4_0s1_0s1_0s1_3s4 := by decide

/-- The precondition says that each split of each site has a channel above minus infinity. -/
theorem possible_of_pre [Cert.Pre_some_channel_possible.Facts]
    (x : FVec Ideal Cert.Pre_some_channel_possible.S1024x32x32x16 .f32)
    (h : Cert.Pre_some_channel_possible.fn (F := Ideal) x = fun _ => 1#1) : Possible x := by
  intro s b p w
  have e := congrFun h (ix4 b p w s)
  revert e
  pointwise [Cert.Pre_some_channel_possible.fn]
  by_contra! hn
  have q (d : Fin 4) (a : Fin 16) (ha : a.val = d.val + 4 * s.val) :
      BitVec.ofBool (decide (Ideal.ofBits .f32 4286578688#32 < x (ix4 b p w a))) = 0#1 := by
    have hd := hn.2 d
    rw [show channel s d = a from Fin.ext (by simp only [channel]; omega)] at hd
    rw [Noise.negInf_eq, decide_eq_false (not_lt.2 hd)]; rfl
  have e := hn.1
  rw [q 0, q 1, q 2, q 3] at e
  · exact absurd e (by decide)
  all_goals simp

/-- The reference runs and leaves its argument and the counters as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0 := by
  refine (θ_run _ _ _).mono (fun r h => ⟨fun c => ?_, sem_eq_zero_of_no_sems (by decide) r.2⟩) (Cert.ReferenceIdeal.Run.run m g)
  obtain ⟨A, hA, h0, -⟩ := h c
  rw [hA]
  exact h0 Cert.ReferenceIdeal.main_arg0 (by decide)

/-- The reference runs and leaves its result, the indicator of the drawn channels. -/
theorem reference_value (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v36)
          = (fun i => result (m ((c.tc : Thread Cert.ReferenceIdeal.nD Cert.ReferenceIdeal.τ).loc Cert.ReferenceIdeal.main_arg0))
              (i 0) (i 1) (i 2) : Cert.ReferenceIdeal.S1024x32x512.Idx → EReal)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) := by
  refine (θ_run _ _ _).mono (fun r h c => ?_) (Cert.ReferenceIdeal.Run.run m g)
  obtain ⟨A, hA, h0, hw⟩ := h c
  have e := h0 Cert.ReferenceIdeal.main_arg0 (by decide)
  rw [hA, hA, ← e]
  refine ⟨?_, rfl⟩
  funext i
  idx_vars i
  exact Cert.ReferenceIdeal.Run.whole_value hw i0 i1 i2

/-- From memories that agree on the argument, which satisfies the precondition, the two programs' results are equal. -/
theorem algebraic [Cert.Pre_some_channel_possible.Facts] :
    Cert.algebraic_KernelIdeal_ReferenceIdeal_pre_some_channel_possible := by
  intro m g m' g' hpre hm
  refine ⟨fun c => (fun i => result (input m c) (i 0) (i 1) (i 2) : Cert.KernelIdeal.S1024x32x512.Idx → EReal),
    (θ_run _ _ _).mono (fun r h c => ⟨?_, (h c).2⟩) (Cert.KernelIdeal.Value.run_blocks m g),
    (θ_run _ _ _).mono (fun r h c => ?_) (reference_value m' g')⟩
  · exact (h c).1.trans (final_value m c (possible_of_pre _ (hpre c)))
  · refine ⟨(h c).1.trans ?_, (h c).2⟩
    rw [hm c]

end Cert.Certificate
-- ==== Proof.lean ====
/-
  The certificate of the kernel: its frames at both readings of the floats, the reference's frame, and the kernel's and the
  reference's equal results over the extended reals.
-/
module

public import proofs.«01_k».proof.Defs
public import proofs.«01_k».proof.Proof.Gen.Kernel.Frame
public import proofs.«01_k».proof.Proof.Gen.ReferenceIdeal
public import proofs.«01_k».proof.Proof.Certificate

@[expose] public section

noncomputable section

namespace Cert.Proof

open Idealize.ShloMosaic Cert.Certificate

/-- The programs' and the precondition's facts, the frames, the idealization that changes nothing, and the equality of
    results. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g,
    fun m g _ => Cert.KernelIdeal.Gen.frame m g, fun m g _ => reference_frame m g, fun m g _ => reference_frame m g,
    trivial, @algebraic pre_facts⟩

end Cert.Proof

end
